-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S512x2x128 Cert.KernelIdeal.S512x1x128
  ∧ IdealRules.bf16_pair.BufferStatement Cert.KernelIdeal.S4x2x128x2x128 Cert.KernelIdeal.S4x2x128x1x128
  ∧ IdealRules.bf16_pair.Statement Cert.KernelIdeal.S128x512 Cert.KernelIdeal.S64x512
  ∧ IdealRules.bf16_pair.HalfStatement Cert.KernelIdeal.S128x128
  ∧ IdealRules.bf16_pair.Statement Cert.KernelIdeal.S128x2x128 Cert.KernelIdeal.S128x1x128
  ∧ IdealRules.bf16_pair.Statement Cert.KernelIdeal.S1x1x128x2x128 Cert.KernelIdeal.S1x1x128x1x128
  ∧ IdealRules.bf16_pair.Statement Cert.KernelIdeal.S1x1x1x2x128 Cert.KernelIdeal.S1x1x1x1x128
  ∧ IdealRules.bf16_pair.Statement Cert.KernelIdeal.S16x128 Cert.KernelIdeal.S8x128
  ∧ IdealRules.bf16_pair.Statement Cert.KernelIdeal.S192x128 Cert.KernelIdeal.S96x128
  ∧ IdealRules.bf16_pair.Statement Cert.KernelIdeal.S64x128 Cert.KernelIdeal.S32x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x16384 : Shape := ⟨3, ![192, 1, 16384]⟩
abbrev S16384x1792 : Shape := ⟨2, ![16384, 1792]⟩
abbrev S1024x7168 : Shape := ⟨2, ![1024, 7168]⟩
abbrev S192x16384 : Shape := ⟨2, ![192, 16384]⟩
abbrev S192x7168 : Shape := ⟨2, ![192, 7168]⟩
abbrev S2048x128 : Shape := ⟨2, ![2048, 128]⟩
abbrev S128x512 : Shape := ⟨2, ![128, 512]⟩
abbrev S192x512 : Shape := ⟨2, ![192, 512]⟩
abbrev S2048x512 : Shape := ⟨2, ![2048, 512]⟩
abbrev S512x128 : Shape := ⟨2, ![512, 128]⟩
abbrev S4x2x128x128 : Shape := ⟨4, ![4, 2, 128, 128]⟩
abbrev S64x512 : Shape := ⟨2, ![64, 512]⟩
abbrev S128x128 : Shape := ⟨2, ![128, 128]⟩
abbrev S1x1x128x128 : Shape := ⟨4, ![1, 1, 128, 128]⟩
abbrev S32x128 : Shape := ⟨2, ![32, 128]⟩
abbrev S8x128 : Shape := ⟨2, ![8, 128]⟩
abbrev S1x1x1x128 : Shape := ⟨4, ![1, 1, 1, 128]⟩
abbrev S1x128 : Shape := ⟨2, ![1, 128]⟩
abbrev S16x128 : Shape := ⟨2, ![16, 128]⟩
abbrev S192x2048 : Shape := ⟨2, ![192, 2048]⟩
abbrev S192x128 : Shape := ⟨2, ![192, 128]⟩
abbrev S96x128 : Shape := ⟨2, ![96, 128]⟩
abbrev S64x128 : Shape := ⟨2, ![64, 128]⟩

abbrev nBuf : Space → Nat
  | .hbm => 6
  | .vmem => 13
  | .smem => 0
  | _ => 0

abbrev bufTy : (tb : Table) → Fin (tcTables nBuf tb) → BufTy
  | .hbm, ⟨0, _⟩ => ⟨S192x1x16384, .bf16⟩
  | .hbm, ⟨1, _⟩ => ⟨S16384x1792, .i8⟩
  | .hbm, ⟨2, _⟩ => ⟨S1024x7168, .bf16⟩
  | .hbm, ⟨3, _⟩ => ⟨S1024x7168, .bf16⟩
  | .hbm, ⟨4, _⟩ => ⟨S192x16384, .bf16⟩
  | .hbm, ⟨5, _⟩ => ⟨S192x7168, .bf16⟩
  | .local _ .vmem, ⟨0, _⟩ => ⟨S192x16384, .bf16⟩
  | .local _ .vmem, ⟨1, _⟩ => ⟨S2048x128, .i8⟩
  | .local _ .vmem, ⟨2, _⟩ => ⟨S2048x128, .i8⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S192x512, .bf16⟩
  | .local _ .vmem, ⟨8, _⟩ => ⟨S192x512, .bf16⟩
  | .local _ .vmem, ⟨9, _⟩ => ⟨S192x512, .f32⟩
  | .local _ .vmem, ⟨10, _⟩ => ⟨S2048x512, .bf16⟩
  | .local _ .vmem, ⟨11, _⟩ => ⟨S512x128, .i32⟩
  | .local _ .vmem, ⟨12, _⟩ => ⟨S4x2x128x128, .i32⟩
  | _, _ => ⟨S192x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨2, ![14, 8], ![false, false]⟩

@[reducible] def k0_t1_loop : Scf.Loop 32 :=
  let c0_i32 : BitVec 32 := 0#32
  let c64_i32 : BitVec 32 := 64#32
  let v209 : BitVec 32 := Scalar.addi c0_i32 c64_i32
  let c1_i32 : BitVec 32 := 1#32
  ⟨c0_i32, v209, c1_i32⟩
def k0_mult1 (k0_t1 : Fin k0_t1_loop.trips) : BitVec 32 :=
  let c32_i32 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v230 : BitVec 32 := Scalar.muli c32_i32 v229
  v230
def k0_off1 (k0_t1 : Fin k0_t1_loop.trips) : Fin 2 → Nat :=
  let c32_i32 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v230 : BitVec 32 := Scalar.muli c32_i32 v229
  let v231 : BitVec 32 := v230
  let v232 : Index := Scalar.indexCast v231
  let c0_88 : Index := 0#32
  ![v232.toNat, 0]
def k0_off2 (k0_t1 : Fin k0_t1_loop.trips) : Fin 4 → Nat :=
  let c0_90 : Index := 0#32
  let c0_91 : Index := 0#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v241 : Index := Scalar.indexCast v229
  let c0_92 : Index := 0#32
  ![0, 0, v241.toNat, 0]
def k0_off3 (k0_t1 : Fin k0_t1_loop.trips) : Fin 4 → Nat :=
  let c0_94 : Index := 0#32
  let c0_95 : Index := 0#32
  let c64_i32_93 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v245 : BitVec 32 := Scalar.addi c64_i32_93 v229
  let v246 : Index := Scalar.indexCast v245
  let c0_96 : Index := 0#32
  ![0, 0, v246.toNat, 0]
def k0_mult2 (k0_t1 : Fin k0_t1_loop.trips) : BitVec 32 :=
  let c32_i32_97 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v252 : BitVec 32 := Scalar.muli c32_i32_97 v229
  let c0_i32_98 : BitVec 32 := 0#32
  let v253 : BitVec 32 := Scalar.addi v252 c0_i32_98
  v253
def k0_off4 (k0_t1 : Fin k0_t1_loop.trips) (c0_i32_98 : BitVec 32) : Fin 2 → Nat :=
  let c32_i32_97 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v252 : BitVec 32 := Scalar.muli c32_i32_97 v229
  let v253 : BitVec 32 := Scalar.addi v252 c0_i32_98
  let v254 : BitVec 32 := v253
  let v258 : Index := Scalar.indexCast v254
  let c0_99 : Index := 0#32
  ![v258.toNat, 0]
def k0_off5 (k0_t1 : Fin k0_t1_loop.trips) : Fin 4 → Nat :=
  let c0_100 : Index := 0#32
  let c1_101 : Index := 1#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v262 : Index := Scalar.indexCast v229
  let c0_102 : Index := 0#32
  ![0, 1, v262.toNat, 0]
def k0_off6 (k0_t1 : Fin k0_t1_loop.trips) : Fin 4 → Nat :=
  let c0_104 : Index := 0#32
  let c1_105 : Index := 1#32
  let c64_i32_103 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v266 : BitVec 32 := Scalar.addi c64_i32_103 v229
  let v267 : Index := Scalar.indexCast v266
  let c0_106 : Index := 0#32
  ![0, 1, v267.toNat, 0]
def k0_mult3 (k0_t1 : Fin k0_t1_loop.trips) : BitVec 32 :=
  let c32_i32_107 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v273 : BitVec 32 := Scalar.muli c32_i32_107 v229
  let c16_i32_108 : BitVec 32 := 16#32
  let v274 : BitVec 32 := Scalar.addi v273 c16_i32_108
  v274
def k0_off7 (k0_t1 : Fin k0_t1_loop.trips) : Fin 4 → Nat :=
  let c1_111 : Index := 1#32
  let c0_112 : Index := 0#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v289 : Index := Scalar.indexCast v229
  let c0_113 : Index := 0#32
  ![1, 0, v289.toNat, 0]
def k0_off8 (k0_t1 : Fin k0_t1_loop.trips) : Fin 4 → Nat :=
  let c1_115 : Index := 1#32
  let c0_116 : Index := 0#32
  let c64_i32_114 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v293 : BitVec 32 := Scalar.addi c64_i32_114 v229
  let v294 : Index := Scalar.indexCast v293
  let c0_117 : Index := 0#32
  ![1, 0, v294.toNat, 0]
def k0_mult4 (k0_t1 : Fin k0_t1_loop.trips) : BitVec 32 :=
  let c32_i32_118 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v300 : BitVec 32 := Scalar.muli c32_i32_118 v229
  let c0_i32_119 : BitVec 32 := 0#32
  let v301 : BitVec 32 := Scalar.addi v300 c0_i32_119
  v301
def k0_off9 (k0_t1 : Fin k0_t1_loop.trips) (c0_i32_119 : BitVec 32) : Fin 2 → Nat :=
  let c32_i32_118 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v300 : BitVec 32 := Scalar.muli c32_i32_118 v229
  let v301 : BitVec 32 := Scalar.addi v300 c0_i32_119
  let v302 : BitVec 32 := v301
  let v306 : Index := Scalar.indexCast v302
  let c128_120 : Index := 128#32
  ![v306.toNat, 128]
def k0_off10 (k0_t1 : Fin k0_t1_loop.trips) : Fin 4 → Nat :=
  let c1_121 : Index := 1#32
  let c1_122 : Index := 1#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v310 : Index := Scalar.indexCast v229
  let c0_123 : Index := 0#32
  ![1, 1, v310.toNat, 0]
def k0_off11 (k0_t1 : Fin k0_t1_loop.trips) : Fin 4 → Nat :=
  let c1_125 : Index := 1#32
  let c1_126 : Index := 1#32
  let c64_i32_124 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v314 : BitVec 32 := Scalar.addi c64_i32_124 v229
  let v315 : Index := Scalar.indexCast v314
  let c0_127 : Index := 0#32
  ![1, 1, v315.toNat, 0]
def k0_mult5 (k0_t1 : Fin k0_t1_loop.trips) : BitVec 32 :=
  let c32_i32_128 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v321 : BitVec 32 := Scalar.muli c32_i32_128 v229
  let c16_i32_129 : BitVec 32 := 16#32
  let v322 : BitVec 32 := Scalar.addi v321 c16_i32_129
  v322
def k0_off12 (k0_t1 : Fin k0_t1_loop.trips) : Fin 4 → Nat :=
  let c2_132 : Index := 2#32
  let c0_133 : Index := 0#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v337 : Index := Scalar.indexCast v229
  let c0_134 : Index := 0#32
  ![2, 0, v337.toNat, 0]
def k0_off13 (k0_t1 : Fin k0_t1_loop.trips) : Fin 4 → Nat :=
  let c2_136 : Index := 2#32
  let c0_137 : Index := 0#32
  let c64_i32_135 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v341 : BitVec 32 := Scalar.addi c64_i32_135 v229
  let v342 : Index := Scalar.indexCast v341
  let c0_138 : Index := 0#32
  ![2, 0, v342.toNat, 0]
def k0_mult6 (k0_t1 : Fin k0_t1_loop.trips) : BitVec 32 :=
  let c32_i32_139 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v348 : BitVec 32 := Scalar.muli c32_i32_139 v229
  let c0_i32_140 : BitVec 32 := 0#32
  let v349 : BitVec 32 := Scalar.addi v348 c0_i32_140
  v349
def k0_off14 (k0_t1 : Fin k0_t1_loop.trips) (c0_i32_140 : BitVec 32) : Fin 2 → Nat :=
  let c32_i32_139 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v348 : BitVec 32 := Scalar.muli c32_i32_139 v229
  let v349 : BitVec 32 := Scalar.addi v348 c0_i32_140
  let v350 : BitVec 32 := v349
  let v354 : Index := Scalar.indexCast v350
  let c256_141 : Index := 256#32
  ![v354.toNat, 256]
def k0_off15 (k0_t1 : Fin k0_t1_loop.trips) : Fin 4 → Nat :=
  let c2_142 : Index := 2#32
  let c1_143 : Index := 1#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v358 : Index := Scalar.indexCast v229
  let c0_144 : Index := 0#32
  ![2, 1, v358.toNat, 0]
def k0_off16 (k0_t1 : Fin k0_t1_loop.trips) : Fin 4 → Nat :=
  let c2_146 : Index := 2#32
  let c1_147 : Index := 1#32
  let c64_i32_145 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v362 : BitVec 32 := Scalar.addi c64_i32_145 v229
  let v363 : Index := Scalar.indexCast v362
  let c0_148 : Index := 0#32
  ![2, 1, v363.toNat, 0]
def k0_mult7 (k0_t1 : Fin k0_t1_loop.trips) : BitVec 32 :=
  let c32_i32_149 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v369 : BitVec 32 := Scalar.muli c32_i32_149 v229
  let c16_i32_150 : BitVec 32 := 16#32
  let v370 : BitVec 32 := Scalar.addi v369 c16_i32_150
  v370
def k0_off17 (k0_t1 : Fin k0_t1_loop.trips) : Fin 4 → Nat :=
  let c3_153 : Index := 3#32
  let c0_154 : Index := 0#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v385 : Index := Scalar.indexCast v229
  let c0_155 : Index := 0#32
  ![3, 0, v385.toNat, 0]
def k0_off18 (k0_t1 : Fin k0_t1_loop.trips) : Fin 4 → Nat :=
  let c3_157 : Index := 3#32
  let c0_158 : Index := 0#32
  let c64_i32_156 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v389 : BitVec 32 := Scalar.addi c64_i32_156 v229
  let v390 : Index := Scalar.indexCast v389
  let c0_159 : Index := 0#32
  ![3, 0, v390.toNat, 0]
def k0_mult8 (k0_t1 : Fin k0_t1_loop.trips) : BitVec 32 :=
  let c32_i32_160 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v396 : BitVec 32 := Scalar.muli c32_i32_160 v229
  let c0_i32_161 : BitVec 32 := 0#32
  let v397 : BitVec 32 := Scalar.addi v396 c0_i32_161
  v397
def k0_off19 (k0_t1 : Fin k0_t1_loop.trips) (c0_i32_161 : BitVec 32) : Fin 2 → Nat :=
  let c32_i32_160 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v396 : BitVec 32 := Scalar.muli c32_i32_160 v229
  let v397 : BitVec 32 := Scalar.addi v396 c0_i32_161
  let v398 : BitVec 32 := v397
  let v402 : Index := Scalar.indexCast v398
  let c384_162 : Index := 384#32
  ![v402.toNat, 384]
def k0_off20 (k0_t1 : Fin k0_t1_loop.trips) : Fin 4 → Nat :=
  let c3_163 : Index := 3#32
  let c1_164 : Index := 1#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v406 : Index := Scalar.indexCast v229
  let c0_165 : Index := 0#32
  ![3, 1, v406.toNat, 0]
def k0_off21 (k0_t1 : Fin k0_t1_loop.trips) : Fin 4 → Nat :=
  let c3_167 : Index := 3#32
  let c1_168 : Index := 1#32
  let c64_i32_166 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v410 : BitVec 32 := Scalar.addi c64_i32_166 v229
  let v411 : Index := Scalar.indexCast v410
  let c0_169 : Index := 0#32
  ![3, 1, v411.toNat, 0]
def k0_mult9 (k0_t1 : Fin k0_t1_loop.trips) : BitVec 32 :=
  let c32_i32_170 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v417 : BitVec 32 := Scalar.muli c32_i32_170 v229
  let c16_i32_171 : BitVec 32 := 16#32
  let v418 : BitVec 32 := Scalar.addi v417 c16_i32_171
  v418
def k0_mult10 (i : grid0.Coords) : BitVec 32 :=
  let arg1 : BitVec 32 := BitVec.ofNat 32 (i 1).val
  let c2048_i32 : BitVec 32 := 2048#32
  let v214 : BitVec 32 := Scalar.muli arg1 c2048_i32
  v214
def k0_off22 (i : grid0.Coords) : Fin 2 → Nat :=
  let c0_80 : Index := 0#32
  let arg1 : BitVec 32 := BitVec.ofNat 32 (i 1).val
  let c2048_i32 : BitVec 32 := 2048#32
  let v214 : BitVec 32 := Scalar.muli arg1 c2048_i32
  let v215 : BitVec 32 := v214
  let v216 : Index := Scalar.indexCast v215
  ![0, v216.toNat]
def k0_cond2 (i : grid0.Coords) : BitVec 1 :=
  let arg1 : BitVec 32 := BitVec.ofNat 32 (i 1).val
  let c7_i32 : BitVec 32 := 7#32
  let v225 : BitVec 1 := Scalar.cmpi .eq arg1 c7_i32
  let v226 : BitVec 32 := Scalar.extui v225
  let c0_i32_85 : BitVec 32 := 0#32
  let v227 : BitVec 1 := Scalar.cmpi .ne v226 c0_i32_85
  v227

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S192x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S192x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
abbrev S192x1x16384 : Shape := ⟨3, ![192, 1, 16384]⟩
abbrev S16384x1792 : Shape := ⟨2, ![16384, 1792]⟩
abbrev S1024x7168 : Shape := ⟨2, ![1024, 7168]⟩
abbrev S192x16384 : Shape := ⟨2, ![192, 16384]⟩
abbrev S192x7168 : Shape := ⟨2, ![192, 7168]⟩
abbrev S2048x128 : Shape := ⟨2, ![2048, 128]⟩
abbrev S128x512 : Shape := ⟨2, ![128, 512]⟩
abbrev S192x512 : Shape := ⟨2, ![192, 512]⟩
abbrev S2048x512 : Shape := ⟨2, ![2048, 512]⟩
abbrev S512x128 : Shape := ⟨2, ![512, 128]⟩
abbrev S512x2x128 : Shape := ⟨3, ![512, 2, 128]⟩
abbrev S512x1x128 : Shape := ⟨3, ![512, 1, 128]⟩
abbrev S4x2x128x128 : Shape := ⟨4, ![4, 2, 128, 128]⟩
abbrev S4x2x128x2x128 : Shape := ⟨5, ![4, 2, 128, 2, 128]⟩
abbrev S4x2x128x1x128 : Shape := ⟨5, ![4, 2, 128, 1, 128]⟩
abbrev S64x512 : Shape := ⟨2, ![64, 512]⟩
abbrev S128x128 : Shape := ⟨2, ![128, 128]⟩
abbrev S128x2x128 : Shape := ⟨3, ![128, 2, 128]⟩
abbrev S128x1x128 : Shape := ⟨3, ![128, 1, 128]⟩
abbrev S1x1x128x128 : Shape := ⟨4, ![1, 1, 128, 128]⟩
abbrev S1x1x128x2x128 : Shape := ⟨5, ![1, 1, 128, 2, 128]⟩
abbrev S1x1x128x1x128 : Shape := ⟨5, ![1, 1, 128, 1, 128]⟩
abbrev S32x128 : Shape := ⟨2, ![32, 128]⟩
abbrev S8x128 : Shape := ⟨2, ![8, 128]⟩
abbrev S1x1x1x128 : Shape := ⟨4, ![1, 1, 1, 128]⟩
abbrev S1x1x1x2x128 : Shape := ⟨5, ![1, 1, 1, 2, 128]⟩
abbrev S1x1x1x1x128 : Shape := ⟨5, ![1, 1, 1, 1, 128]⟩
abbrev S1x128 : Shape := ⟨2, ![1, 128]⟩
abbrev S16x128 : Shape := ⟨2, ![16, 128]⟩
abbrev S192x2048 : Shape := ⟨2, ![192, 2048]⟩
abbrev S192x128 : Shape := ⟨2, ![192, 128]⟩
abbrev S96x128 : Shape := ⟨2, ![96, 128]⟩
abbrev S64x128 : Shape := ⟨2, ![64, 128]⟩

abbrev nBuf : Space → Nat
  | .hbm => 6
  | .vmem => 13
  | .smem => 0
  | _ => 0

abbrev bufTy : (tb : Table) → Fin (tcTables nBuf tb) → BufTy
  | .hbm, ⟨0, _⟩ => ⟨S192x1x16384, .bf16⟩
  | .hbm, ⟨1, _⟩ => ⟨S16384x1792, .i8⟩
  | .hbm, ⟨2, _⟩ => ⟨S1024x7168, .bf16⟩
  | .hbm, ⟨3, _⟩ => ⟨S1024x7168, .bf16⟩
  | .hbm, ⟨4, _⟩ => ⟨S192x16384, .bf16⟩
  | .hbm, ⟨5, _⟩ => ⟨S192x7168, .bf16⟩
  | .local _ .vmem, ⟨0, _⟩ => ⟨S192x16384, .bf16⟩
  | .local _ .vmem, ⟨1, _⟩ => ⟨S2048x128, .i8⟩
  | .local _ .vmem, ⟨2, _⟩ => ⟨S2048x128, .i8⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S192x512, .bf16⟩
  | .local _ .vmem, ⟨8, _⟩ => ⟨S192x512, .bf16⟩
  | .local _ .vmem, ⟨9, _⟩ => ⟨S192x512, .f32⟩
  | .local _ .vmem, ⟨10, _⟩ => ⟨S2048x512, .bf16⟩
  | .local _ .vmem, ⟨11, _⟩ => ⟨S512x2x128, .bf16⟩
  | .local _ .vmem, ⟨12, _⟩ => ⟨S4x2x128x2x128, .bf16⟩
  | _, _ => ⟨S192x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![14, 8], ![false, false]⟩

@[reducible] def k0_t1_loop : Scf.Loop 32 :=
  let c0_i32 : BitVec 32 := 0#32
  let c64_i32 : BitVec 32 := 64#32
  let v209 : BitVec 32 := Scalar.addi c0_i32 c64_i32
  let c1_i32 : BitVec 32 := 1#32
  ⟨c0_i32, v209, c1_i32⟩
def k0_mult1 (k0_t1 : Fin k0_t1_loop.trips) : BitVec 32 :=
  let c32_i32 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v230 : BitVec 32 := Scalar.muli c32_i32 v229
  v230
def k0_off1 (k0_t1 : Fin k0_t1_loop.trips) : Fin 2 → Nat :=
  let c32_i32 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v230 : BitVec 32 := Scalar.muli c32_i32 v229
  let v231 : BitVec 32 := v230
  let v232 : Index := Scalar.indexCast v231
  let c0_88 : Index := 0#32
  ![v232.toNat, 0]
def k0_off2 (k0_t1 : Fin k0_t1_loop.trips) : Fin 5 → Nat :=
  let c0_90 : Index := 0#32
  let c0_91 : Index := 0#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v241 : Index := Scalar.indexCast v229
  let c0_92 : Index := 0#32
  ![0, 0, v241.toNat, 0, 0]
def k0_off3 (k0_t1 : Fin k0_t1_loop.trips) : Fin 5 → Nat :=
  let c0_94 : Index := 0#32
  let c0_95 : Index := 0#32
  let c64_i32_93 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v245 : BitVec 32 := Scalar.addi c64_i32_93 v229
  let v246 : Index := Scalar.indexCast v245
  let c0_96 : Index := 0#32
  ![0, 0, v246.toNat, 0, 0]
def k0_mult2 (k0_t1 : Fin k0_t1_loop.trips) : BitVec 32 :=
  let c32_i32_97 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v252 : BitVec 32 := Scalar.muli c32_i32_97 v229
  let c0_i32_98 : BitVec 32 := 0#32
  let v253 : BitVec 32 := Scalar.addi v252 c0_i32_98
  v253
def k0_off4 (k0_t1 : Fin k0_t1_loop.trips) (c0_i32_98 : BitVec 32) : Fin 2 → Nat :=
  let c32_i32_97 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v252 : BitVec 32 := Scalar.muli c32_i32_97 v229
  let v253 : BitVec 32 := Scalar.addi v252 c0_i32_98
  let v254 : BitVec 32 := v253
  let v258 : Index := Scalar.indexCast v254
  let c0_99 : Index := 0#32
  ![v258.toNat, 0]
def k0_off5 (k0_t1 : Fin k0_t1_loop.trips) : Fin 5 → Nat :=
  let c0_100 : Index := 0#32
  let c1_101 : Index := 1#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v262 : Index := Scalar.indexCast v229
  let c0_102 : Index := 0#32
  ![0, 1, v262.toNat, 0, 0]
def k0_off6 (k0_t1 : Fin k0_t1_loop.trips) : Fin 5 → Nat :=
  let c0_104 : Index := 0#32
  let c1_105 : Index := 1#32
  let c64_i32_103 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v266 : BitVec 32 := Scalar.addi c64_i32_103 v229
  let v267 : Index := Scalar.indexCast v266
  let c0_106 : Index := 0#32
  ![0, 1, v267.toNat, 0, 0]
def k0_mult3 (k0_t1 : Fin k0_t1_loop.trips) : BitVec 32 :=
  let c32_i32_107 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v273 : BitVec 32 := Scalar.muli c32_i32_107 v229
  let c16_i32_108 : BitVec 32 := 16#32
  let v274 : BitVec 32 := Scalar.addi v273 c16_i32_108
  v274
def k0_off7 (k0_t1 : Fin k0_t1_loop.trips) : Fin 5 → Nat :=
  let c1_111 : Index := 1#32
  let c0_112 : Index := 0#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v289 : Index := Scalar.indexCast v229
  let c0_113 : Index := 0#32
  ![1, 0, v289.toNat, 0, 0]
def k0_off8 (k0_t1 : Fin k0_t1_loop.trips) : Fin 5 → Nat :=
  let c1_115 : Index := 1#32
  let c0_116 : Index := 0#32
  let c64_i32_114 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v293 : BitVec 32 := Scalar.addi c64_i32_114 v229
  let v294 : Index := Scalar.indexCast v293
  let c0_117 : Index := 0#32
  ![1, 0, v294.toNat, 0, 0]
def k0_mult4 (k0_t1 : Fin k0_t1_loop.trips) : BitVec 32 :=
  let c32_i32_118 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v300 : BitVec 32 := Scalar.muli c32_i32_118 v229
  let c0_i32_119 : BitVec 32 := 0#32
  let v301 : BitVec 32 := Scalar.addi v300 c0_i32_119
  v301
def k0_off9 (k0_t1 : Fin k0_t1_loop.trips) (c0_i32_119 : BitVec 32) : Fin 2 → Nat :=
  let c32_i32_118 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v300 : BitVec 32 := Scalar.muli c32_i32_118 v229
  let v301 : BitVec 32 := Scalar.addi v300 c0_i32_119
  let v302 : BitVec 32 := v301
  let v306 : Index := Scalar.indexCast v302
  let c128_120 : Index := 128#32
  ![v306.toNat, 128]
def k0_off10 (k0_t1 : Fin k0_t1_loop.trips) : Fin 5 → Nat :=
  let c1_121 : Index := 1#32
  let c1_122 : Index := 1#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v310 : Index := Scalar.indexCast v229
  let c0_123 : Index := 0#32
  ![1, 1, v310.toNat, 0, 0]
def k0_off11 (k0_t1 : Fin k0_t1_loop.trips) : Fin 5 → Nat :=
  let c1_125 : Index := 1#32
  let c1_126 : Index := 1#32
  let c64_i32_124 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v314 : BitVec 32 := Scalar.addi c64_i32_124 v229
  let v315 : Index := Scalar.indexCast v314
  let c0_127 : Index := 0#32
  ![1, 1, v315.toNat, 0, 0]
def k0_mult5 (k0_t1 : Fin k0_t1_loop.trips) : BitVec 32 :=
  let c32_i32_128 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v321 : BitVec 32 := Scalar.muli c32_i32_128 v229
  let c16_i32_129 : BitVec 32 := 16#32
  let v322 : BitVec 32 := Scalar.addi v321 c16_i32_129
  v322
def k0_off12 (k0_t1 : Fin k0_t1_loop.trips) : Fin 5 → Nat :=
  let c2_132 : Index := 2#32
  let c0_133 : Index := 0#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v337 : Index := Scalar.indexCast v229
  let c0_134 : Index := 0#32
  ![2, 0, v337.toNat, 0, 0]
def k0_off13 (k0_t1 : Fin k0_t1_loop.trips) : Fin 5 → Nat :=
  let c2_136 : Index := 2#32
  let c0_137 : Index := 0#32
  let c64_i32_135 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v341 : BitVec 32 := Scalar.addi c64_i32_135 v229
  let v342 : Index := Scalar.indexCast v341
  let c0_138 : Index := 0#32
  ![2, 0, v342.toNat, 0, 0]
def k0_mult6 (k0_t1 : Fin k0_t1_loop.trips) : BitVec 32 :=
  let c32_i32_139 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v348 : BitVec 32 := Scalar.muli c32_i32_139 v229
  let c0_i32_140 : BitVec 32 := 0#32
  let v349 : BitVec 32 := Scalar.addi v348 c0_i32_140
  v349
def k0_off14 (k0_t1 : Fin k0_t1_loop.trips) (c0_i32_140 : BitVec 32) : Fin 2 → Nat :=
  let c32_i32_139 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v348 : BitVec 32 := Scalar.muli c32_i32_139 v229
  let v349 : BitVec 32 := Scalar.addi v348 c0_i32_140
  let v350 : BitVec 32 := v349
  let v354 : Index := Scalar.indexCast v350
  let c256_141 : Index := 256#32
  ![v354.toNat, 256]
def k0_off15 (k0_t1 : Fin k0_t1_loop.trips) : Fin 5 → Nat :=
  let c2_142 : Index := 2#32
  let c1_143 : Index := 1#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v358 : Index := Scalar.indexCast v229
  let c0_144 : Index := 0#32
  ![2, 1, v358.toNat, 0, 0]
def k0_off16 (k0_t1 : Fin k0_t1_loop.trips) : Fin 5 → Nat :=
  let c2_146 : Index := 2#32
  let c1_147 : Index := 1#32
  let c64_i32_145 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v362 : BitVec 32 := Scalar.addi c64_i32_145 v229
  let v363 : Index := Scalar.indexCast v362
  let c0_148 : Index := 0#32
  ![2, 1, v363.toNat, 0, 0]
def k0_mult7 (k0_t1 : Fin k0_t1_loop.trips) : BitVec 32 :=
  let c32_i32_149 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v369 : BitVec 32 := Scalar.muli c32_i32_149 v229
  let c16_i32_150 : BitVec 32 := 16#32
  let v370 : BitVec 32 := Scalar.addi v369 c16_i32_150
  v370
def k0_off17 (k0_t1 : Fin k0_t1_loop.trips) : Fin 5 → Nat :=
  let c3_153 : Index := 3#32
  let c0_154 : Index := 0#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v385 : Index := Scalar.indexCast v229
  let c0_155 : Index := 0#32
  ![3, 0, v385.toNat, 0, 0]
def k0_off18 (k0_t1 : Fin k0_t1_loop.trips) : Fin 5 → Nat :=
  let c3_157 : Index := 3#32
  let c0_158 : Index := 0#32
  let c64_i32_156 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v389 : BitVec 32 := Scalar.addi c64_i32_156 v229
  let v390 : Index := Scalar.indexCast v389
  let c0_159 : Index := 0#32
  ![3, 0, v390.toNat, 0, 0]
def k0_mult8 (k0_t1 : Fin k0_t1_loop.trips) : BitVec 32 :=
  let c32_i32_160 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v396 : BitVec 32 := Scalar.muli c32_i32_160 v229
  let c0_i32_161 : BitVec 32 := 0#32
  let v397 : BitVec 32 := Scalar.addi v396 c0_i32_161
  v397
def k0_off19 (k0_t1 : Fin k0_t1_loop.trips) (c0_i32_161 : BitVec 32) : Fin 2 → Nat :=
  let c32_i32_160 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v396 : BitVec 32 := Scalar.muli c32_i32_160 v229
  let v397 : BitVec 32 := Scalar.addi v396 c0_i32_161
  let v398 : BitVec 32 := v397
  let v402 : Index := Scalar.indexCast v398
  let c384_162 : Index := 384#32
  ![v402.toNat, 384]
def k0_off20 (k0_t1 : Fin k0_t1_loop.trips) : Fin 5 → Nat :=
  let c3_163 : Index := 3#32
  let c1_164 : Index := 1#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v406 : Index := Scalar.indexCast v229
  let c0_165 : Index := 0#32
  ![3, 1, v406.toNat, 0, 0]
def k0_off21 (k0_t1 : Fin k0_t1_loop.trips) : Fin 5 → Nat :=
  let c3_167 : Index := 3#32
  let c1_168 : Index := 1#32
  let c64_i32_166 : BitVec 32 := 64#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v410 : BitVec 32 := Scalar.addi c64_i32_166 v229
  let v411 : Index := Scalar.indexCast v410
  let c0_169 : Index := 0#32
  ![3, 1, v411.toNat, 0, 0]
def k0_mult9 (k0_t1 : Fin k0_t1_loop.trips) : BitVec 32 :=
  let c32_i32_170 : BitVec 32 := 32#32
  let c0_i32_87 : BitVec 32 := 0#32
  let c0_i32 : BitVec 32 := 0#32
  let c1_i32 : BitVec 32 := 1#32
  let arg11 : BitVec 32 := Scf.iv c0_i32 c1_i32 k0_t1
  let c1_i32_86 : BitVec 32 := 1#32
  let v228 : BitVec 32 := Scalar.muli arg11 c1_i32_86
  let v229 : BitVec 32 := Scalar.addi c0_i32_87 v228
  let v417 : BitVec 32 := Scalar.muli c32_i32_170 v229
  let c16_i32_171 : BitVec 32 := 16#32
  let v418 : BitVec 32 := Scalar.addi v417 c16_i32_171
  v418
def k0_mult10 (i : grid0.Coords) : BitVec 32 :=
  let arg1 : BitVec 32 := BitVec.ofNat 32 (i 1).val
  let c2048_i32 : BitVec 32 := 2048#32
  let v214 : BitVec 32 := Scalar.muli arg1 c2048_i32
  v214
def k0_off22 (i : grid0.Coords) : Fin 2 → Nat :=
  let c0_80 : Index := 0#32
  let arg1 : BitVec 32 := BitVec.ofNat 32 (i 1).val
  let c2048_i32 : BitVec 32 := 2048#32
  let v214 : BitVec 32 := Scalar.muli arg1 c2048_i32
  let v215 : BitVec 32 := v214
  let v216 : Index := Scalar.indexCast v215
  ![0, v216.toNat]
def k0_cond2 (i : grid0.Coords) : BitVec 1 :=
  let arg1 : BitVec 32 := BitVec.ofNat 32 (i 1).val
  let c7_i32 : BitVec 32 := 7#32
  let v225 : BitVec 1 := Scalar.cmpi .eq arg1 c7_i32
  let v226 : BitVec 32 := Scalar.extui v225
  let c0_i32_85 : BitVec 32 := 0#32
  let v227 : BitVec 1 := Scalar.cmpi .ne v226 c0_i32_85
  v227

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S192x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S192x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S192x1x16384 : Shape := ⟨3, ![192, 1, 16384]⟩
abbrev S16384x1792 : Shape := ⟨2, ![16384, 1792]⟩
abbrev S1024x7168 : Shape := ⟨2, ![1024, 7168]⟩
abbrev S1024x1792x4 : Shape := ⟨3, ![1024, 1792, 4]⟩
abbrev S1024x4x1792 : Shape := ⟨3, ![1024, 4, 1792]⟩
abbrev S192x16384 : Shape := ⟨2, ![192, 16384]⟩
abbrev S_ : Shape := ⟨0, ![]⟩
abbrev S1024x16x1792 : Shape := ⟨3, ![1024, 16, 1792]⟩
abbrev S1024x1x1792 : Shape := ⟨3, ![1024, 1, 1792]⟩
abbrev S1024x1792 : Shape := ⟨2, ![1024, 1792]⟩
abbrev S192x1792 : Shape := ⟨2, ![192, 1792]⟩
abbrev S192x1x1792 : Shape := ⟨3, ![192, 1, 1792]⟩
abbrev S192x4x1792 : Shape := ⟨3, ![192, 4, 1792]⟩
abbrev S192x1792x4 : Shape := ⟨3, ![192, 1792, 4]⟩
abbrev S192x7168 : Shape := ⟨2, ![192, 7168]⟩

abbrev nBuf : Space → Nat
  | .hbm => 104
  | .vmem => 0
  | .smem => 0
  | _ => 0

abbrev bufTy : (tb : Table) → Fin (tcTables nBuf tb) → BufTy
  | .hbm, ⟨0, _⟩ => ⟨S192x1x16384, .bf16⟩
  | .hbm, ⟨1, _⟩ => ⟨S16384x1792, .i8⟩
  | .hbm, ⟨2, _⟩ => ⟨S1024x7168, .bf16⟩
  | .hbm, ⟨3, _⟩ => ⟨S1024x7168, .bf16⟩
  | .hbm, ⟨4, _⟩ => ⟨S1024x1792x4, .bf16⟩
  | .hbm, ⟨5, _⟩ => ⟨S1024x4x1792, .bf16⟩
  | .hbm, ⟨6, _⟩ => ⟨S1024x1792x4, .bf16⟩
  | .hbm, ⟨7, _⟩ => ⟨S1024x4x1792, .bf16⟩
  | .hbm, ⟨8, _⟩ => ⟨S192x16384, .bf16⟩
  | .hbm, ⟨9, _⟩ => ⟨S16384x1792, .i32⟩
  | .hbm, ⟨10, _⟩ => ⟨S_, .i32⟩
  | .hbm, ⟨11, _⟩ => ⟨S16384x1792, .i32⟩
  | .hbm, ⟨12, _⟩ => ⟨S16384x1792, .i32⟩
  | .hbm, ⟨13, _⟩ => ⟨S_, .i32⟩
  | .hbm, ⟨14, _⟩ => ⟨S16384x1792, .i32⟩
  | .hbm, ⟨15, _⟩ => ⟨S16384x1792, .i32⟩
  | .hbm, ⟨16, _⟩ => ⟨S16384x1792, .bf16⟩
  | .hbm, ⟨17, _⟩ => ⟨S1024x16x1792, .bf16⟩
  | .hbm, ⟨18, _⟩ => ⟨S1024x1x1792, .bf16⟩
  | .hbm, ⟨19, _⟩ => ⟨S1024x1792, .bf16⟩
  | .hbm, ⟨20, _⟩ => ⟨S1024x1x1792, .bf16⟩
  | .hbm, ⟨21, _⟩ => ⟨S1024x16x1792, .bf16⟩
  | .hbm, ⟨22, _⟩ => ⟨S1024x16x1792, .bf16⟩
  | .hbm, ⟨23, _⟩ => ⟨S1024x1x1792, .bf16⟩
  | .hbm, ⟨24, _⟩ => ⟨S1024x1792, .bf16⟩
  | .hbm, ⟨25, _⟩ => ⟨S1024x1x1792, .bf16⟩
  | .hbm, ⟨26, _⟩ => ⟨S1024x16x1792, .bf16⟩
  | .hbm, ⟨27, _⟩ => ⟨S1024x16x1792, .bf16⟩
  | .hbm, ⟨28, _⟩ => ⟨S16384x1792, .bf16⟩
  | .hbm, ⟨29, _⟩ => ⟨S192x1792, .f32⟩
  | .hbm, ⟨30, _⟩ => ⟨S192x1792, .bf16⟩
  | .hbm, ⟨31, _⟩ => ⟨S16384x1792, .i32⟩
  | .hbm, ⟨32, _⟩ => ⟨S_, .i32⟩
  | .hbm, ⟨33, _⟩ => ⟨S16384x1792, .i32⟩
  | .hbm, ⟨34, _⟩ => ⟨S16384x1792, .i32⟩
  | .hbm, ⟨35, _⟩ => ⟨S_, .i32⟩
  | .hbm, ⟨36, _⟩ => ⟨S16384x1792, .i32⟩
  | .hbm, ⟨37, _⟩ => ⟨S16384x1792, .i32⟩
  | .hbm, ⟨38, _⟩ => ⟨S16384x1792, .bf16⟩
  | .hbm, ⟨39, _⟩ => ⟨S1024x16x1792, .bf16⟩
  | .hbm, ⟨40, _⟩ => ⟨S1024x1x1792, .bf16⟩
  | .hbm, ⟨41, _⟩ => ⟨S1024x1792, .bf16⟩
  | .hbm, ⟨42, _⟩ => ⟨S1024x1x1792, .bf16⟩
  | .hbm, ⟨43, _⟩ => ⟨S1024x16x1792, .bf16⟩
  | .hbm, ⟨44, _⟩ => ⟨S1024x16x1792, .bf16⟩
  | .hbm, ⟨45, _⟩ => ⟨S1024x1x1792, .bf16⟩
  | .hbm, ⟨46, _⟩ => ⟨S1024x1792, .bf16⟩
  | .hbm, ⟨47, _⟩ => ⟨S1024x1x1792, .bf16⟩
  | .hbm, ⟨48, _⟩ => ⟨S1024x16x1792, .bf16⟩
  | .hbm, ⟨49, _⟩ => ⟨S1024x16x1792, .bf16⟩
  | .hbm, ⟨50, _⟩ => ⟨S16384x1792, .bf16⟩
  | .hbm, ⟨51, _⟩ => ⟨S192x1792, .f32⟩
  | .hbm, ⟨52, _⟩ => ⟨S192x1792, .bf16⟩
  | .hbm, ⟨53, _⟩ => ⟨S16384x1792, .i32⟩
  | .hbm, ⟨54, _⟩ => ⟨S_, .i32⟩
  | .hbm, ⟨55, _⟩ => ⟨S16384x1792, .i32⟩
  | .hbm, ⟨56, _⟩ => ⟨S16384x1792, .i32⟩
  | .hbm, ⟨57, _⟩ => ⟨S_, .i32⟩
  | .hbm, ⟨58, _⟩ => ⟨S16384x1792, .i32⟩
  | .hbm, ⟨59, _⟩ => ⟨S16384x1792, .i32⟩
  | .hbm, ⟨60, _⟩ => ⟨S16384x1792, .bf16⟩
  | .hbm, ⟨61, _⟩ => ⟨S1024x16x1792, .bf16⟩
  | .hbm, ⟨62, _⟩ => ⟨S1024x1x1792, .bf16⟩
  | .hbm, ⟨63, _⟩ => ⟨S1024x1792, .bf16⟩
  | .hbm, ⟨64, _⟩ => ⟨S1024x1x1792, .bf16⟩
  | .hbm, ⟨65, _⟩ => ⟨S1024x16x1792, .bf16⟩
  | .hbm, ⟨66, _⟩ => ⟨S1024x16x1792, .bf16⟩
  | .hbm, ⟨67, _⟩ => ⟨S1024x1x1792, .bf16⟩
  | .hbm, ⟨68, _⟩ => ⟨S1024x1792, .bf16⟩
  | .hbm, ⟨69, _⟩ => ⟨S1024x1x1792, .bf16⟩
  | .hbm, ⟨70, _⟩ => ⟨S1024x16x1792, .bf16⟩
  | .hbm, ⟨71, _⟩ => ⟨S1024x16x1792, .bf16⟩
  | .hbm, ⟨72, _⟩ => ⟨S16384x1792, .bf16⟩
  | .hbm, ⟨73, _⟩ => ⟨S192x1792, .f32⟩
  | .hbm, ⟨74, _⟩ => ⟨S192x1792, .bf16⟩
  | .hbm, ⟨75, _⟩ => ⟨S16384x1792, .i32⟩
  | .hbm, ⟨76, _⟩ => ⟨S_, .i32⟩
  | .hbm, ⟨77, _⟩ => ⟨S16384x1792, .i32⟩
  | .hbm, ⟨78, _⟩ => ⟨S16384x1792, .i32⟩
  | .hbm, ⟨79, _⟩ => ⟨S_, .i32⟩
  | .hbm, ⟨80, _⟩ => ⟨S16384x1792, .i32⟩
  | .hbm, ⟨81, _⟩ => ⟨S16384x1792, .i32⟩
  | .hbm, ⟨82, _⟩ => ⟨S16384x1792, .bf16⟩
  | .hbm, ⟨83, _⟩ => ⟨S1024x16x1792, .bf16⟩
  | .hbm, ⟨84, _⟩ => ⟨S1024x1x1792, .bf16⟩
  | .hbm, ⟨85, _⟩ => ⟨S1024x1792, .bf16⟩
  | .hbm, ⟨86, _⟩ => ⟨S1024x1x1792, .bf16⟩
  | .hbm, ⟨87, _⟩ => ⟨S1024x16x1792, .bf16⟩
  | .hbm, ⟨88, _⟩ => ⟨S1024x16x1792, .bf16⟩
  | .hbm, ⟨89, _⟩ => ⟨S1024x1x1792, .bf16⟩
  | .hbm, ⟨90, _⟩ => ⟨S1024x1792, .bf16⟩
  | .hbm, ⟨91, _⟩ => ⟨S1024x1x1792, .bf16⟩
  | .hbm, ⟨92, _⟩ => ⟨S1024x16x1792, .bf16⟩
  | .hbm, ⟨93, _⟩ => ⟨S1024x16x1792, .bf16⟩
  | .hbm, ⟨94, _⟩ => ⟨S16384x1792, .bf16⟩
  | .hbm, ⟨95, _⟩ => ⟨S192x1792, .f32⟩
  | .hbm, ⟨96, _⟩ => ⟨S192x1792, .bf16⟩
  | .hbm, ⟨97, _⟩ => ⟨S192x1x1792, .bf16⟩
  | .hbm, ⟨98, _⟩ => ⟨S192x1x1792, .bf16⟩
  | .hbm, ⟨99, _⟩ => ⟨S192x1x1792, .bf16⟩
  | .hbm, ⟨100, _⟩ => ⟨S192x1x1792, .bf16⟩
  | .hbm, ⟨101, _⟩ => ⟨S192x4x1792, .bf16⟩
  | .hbm, ⟨102, _⟩ => ⟨S192x1792x4, .bf16⟩
  | .hbm, ⟨103, _⟩ => ⟨S192x7168, .bf16⟩
  | _, _ => ⟨S192x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_3 : Ref sig .tc := ⟨.hbm, 54, rfl⟩
abbrev main_v46 : Ref sig .tc := ⟨.hbm, 55, rfl⟩
abbrev main_v47 : Ref sig .tc := ⟨.hbm, 56, rfl⟩
abbrev main_c_4 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_c_5 : Ref sig .tc := ⟨.hbm, 76, rfl⟩
abbrev main_v66 : Ref sig .tc := ⟨.hbm, 77, rfl⟩
abbrev main_v67 : Ref sig .tc := ⟨.hbm, 78, rfl⟩
abbrev main_c_6 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩

abbrev nD : Nat := 1
abbrev τ : Topo := Topo.v7x

variable {F : FTy → Type} [FloatOps F]
-- ==== Proof.Staging.lean ====
module

public import proofs.«01_k».proof.Proof.Gen.KernelIdeal.Frame
public import Idealize.ShloMosaic.Lib.Pointwise
public import Idealize.ShloMosaic.Lib.Pipeline.ValueKit
public import Idealize.ShloMosaic.Lib.Pipeline.ReadBack
public import Idealize.ShloMosaic.Lib.Tactic.RunNames

/-!
  The scales and the minimums on their way to the products, at one grid point.

  The kernel packs the rows of the scale block and of the minimum block in pairs, transposes the words in four tiles of 128 lanes into
  the first scratch (512 rows of 128 words, two bf16 numbers to a word), reads every fourth row of it back, transposes again, and
  stores each half twice into the second scratch. `TR` and `SM` say what the two scratches then hold.
-/

@[expose] public section

set_option maxRecDepth 16384

noncomputable section

open Idealize.ShloMosaic Idealize.ShloMosaic.TcCoe Idealize.SL.Sem

namespace Cert.KernelIdeal.Pf

open Cert.KernelIdeal Cert.KernelIdeal.Gen Idealize.ShloMosaic.Tactic

/-- What the first scratch holds at word row `n`, half `q` and lane `b`: the scale of group `2 b + q` and column `n` at the lanes
    below 64, and the minimum of group `2 (b - 64) + q` and column `n` above. -/
def TR (sc mn : FVec Ideal S128x512 .bf16) : FVec Ideal S512x2x128 .bf16 := fun y =>
  if h : (y 2).val < 64 then sc (ix2 ⟨2 * (y 2).val + (y 1).val, by have := (y 1).isLt; change (y 1).val < 2 at this; omega⟩ (y 0))
  else mn (ix2 ⟨2 * ((y 2).val - 64) + (y 1).val, by have := (y 1).isLt; change (y 1).val < 2 at this; have := (y 2).isLt; change (y 2).val < 128 at this; omega⟩ (y 0))

/-- The tile of words stored at rows 0 to 127 is `TR` there. -/
theorem pay40_apply (v0 v2 : Vec Ideal S128x512 .bf16) (c : Fin 128) (q : Fin 2) (b : Fin 128) :
    k0_pay40 (F := Ideal) v0 v2 (ix3 c q b) = TR v0 v2 (ix3 ⟨c, by omega⟩ q b) := by
  pointwise [k0_pay40, k0_pay38, k0_pay39, TR]
  split_ifs <;> first | omega | (congr 2; apply Fin.ext; dsimp only; omega)

/-- The tile of words stored at rows 128 to 255 is `TR` there. -/
theorem pay41_apply (v0 v2 : Vec Ideal S128x512 .bf16) (c : Fin 128) (q : Fin 2) (b : Fin 128) :
    k0_pay41 (F := Ideal) v0 v2 (ix3 c q b) = TR v0 v2 (ix3 ⟨128 + c, by omega⟩ q b) := by
  pointwise [k0_pay41, k0_pay38, k0_pay39, TR]
  split_ifs <;> first | omega | (congr 2; apply Fin.ext; dsimp only; omega)

/-- The tile of words stored at rows 256 to 383 is `TR` there. -/
theorem pay44_apply (v0 v2 : Vec Ideal S128x512 .bf16) (c : Fin 128) (q : Fin 2) (b : Fin 128) :
    k0_pay44 (F := Ideal) (k0_pay42 v0 v2) (k0_pay43 v0 v2) (ix3 c q b) = TR v0 v2 (ix3 ⟨256 + c, by omega⟩ q b) := by
  pointwise [k0_pay44, k0_pay42, k0_pay43, k0_pay38, k0_pay39, TR]
  split_ifs <;> first | omega | (congr 2; apply Fin.ext; dsimp only; omega)

/-- The tile of words stored at rows 384 to 511 is `TR` there. -/
theorem pay45_apply (v0 v2 : Vec Ideal S128x512 .bf16) (c : Fin 128) (q : Fin 2) (b : Fin 128) :
    k0_pay45 (F := Ideal) (k0_pay38 v0 v2) (k0_pay39 v0 v2) (ix3 c q b) = TR v0 v2 (ix3 ⟨384 + c, by omega⟩ q b) := by
  pointwise [k0_pay45, k0_pay38, k0_pay39, TR]
  split_ifs <;> first | omega | (congr 2; apply Fin.ext; dsimp only; omega)

/-- A load of the whole block is the block. -/
theorem ld_whole (x : Vec Ideal S128x512 .bf16) (h) :
    View.ld x (Rect.unit (s := S128x512) ![0, 0] ![128, 512] h) = x :=
  View.ld_unit_zero (S := S128x512) (show (![0, 0] : Fin 2 → ℕ) = fun _ => 0 by funext a; fin_cases a <;> rfl) h x

/-- After the four stores the first scratch is `TR`, at a grid point between the first and the last chunk. -/
theorem tr_canon (c : Dev nD) (arg4 : Memref sig .tc .vmem S128x512 .bf16) (h4 : arg4.IsWhole) (arg5 : Memref sig .tc .vmem S128x512 .bf16)
    (h5 : arg5.IsWhole) (sc mn : Vec Ideal S128x512 .bf16) (y : S512x2x128.Idx) :
    View.canon (kernelRun0_B.sl.HS2_4 (F := Ideal) c arg4 h4 arg5 h5 sc mn) y = TR sc mn y := by
  unfold kernelRun0_B.sl.HS2_4
  sl_unfold_run_names
  simp only [View.readAt_eq_ld, h4.read_unread, h5.read_unread]
  canon_tiles x h
  all_goals rw [ld_whole, ld_whole]; idx_vars x
  · refine (pay45_apply sc mn _ _ _).trans (congrArg (TR sc mn) ?_); blk_ext
  · refine (pay44_apply sc mn _ _ _).trans (congrArg (TR sc mn) ?_); blk_ext
  · refine (pay41_apply sc mn _ _ _).trans (congrArg (TR sc mn) ?_); blk_ext
  · refine (pay40_apply sc mn _ _ _).trans (congrArg (TR sc mn) ?_); blk_ext

/-- The same at a point of the first chunk: the stores are the same. -/
theorem tr_canon_A (c : Dev nD) (arg4 : Memref sig .tc .vmem S128x512 .bf16) (h4 : arg4.IsWhole) (arg5 : Memref sig .tc .vmem S128x512 .bf16)
    (h5 : arg5.IsWhole) (sc mn : Vec Ideal S128x512 .bf16) (y : S512x2x128.Idx) :
    View.canon (kernelRun0_A.sl.HS2_4 (F := Ideal) c arg4 h4 arg5 h5 sc mn) y = TR sc mn y := tr_canon c arg4 h4 arg5 h5 sc mn y

/-- The same at a point of the last chunk: the stores are the same. -/
theorem tr_canon_C (c : Dev nD) (arg4 : Memref sig .tc .vmem S128x512 .bf16) (h4 : arg4.IsWhole) (arg5 : Memref sig .tc .vmem S128x512 .bf16)
    (h5 : arg5.IsWhole) (sc mn : Vec Ideal S128x512 .bf16) (y : S512x2x128.Idx) :
    View.canon (kernelRun0_C.sl.HS2_4 (F := Ideal) c arg4 h4 arg5 h5 sc mn) y = TR sc mn y := tr_canon c arg4 h4 arg5 h5 sc mn y

/-- What the second scratch holds at field `j`, group parity `e`, row `p`, half `q` and lane `b`, whatever `q` is: the scale of
    group `2 p + e` and column `4 b + j` at the rows below 64, and the minimum of group `2 (p - 64) + e` and that column above. -/
def SM (sc mn : FVec Ideal S128x512 .bf16) : FVec Ideal S4x2x128x2x128 .bf16 := fun y =>
  if h : (y 2).val < 64 then
    sc (ix2 ⟨2 * (y 2).val + (y 1).val, by have := (y 1).isLt; change (y 1).val < 2 at this; omega⟩
      ⟨4 * (y 4).val + (y 0).val, by have := (y 0).isLt; change (y 0).val < 4 at this; have := (y 4).isLt; change (y 4).val < 128 at this; omega⟩)
  else
    mn (ix2 ⟨2 * ((y 2).val - 64) + (y 1).val, by have := (y 1).isLt; change (y 1).val < 2 at this; have := (y 2).isLt; change (y 2).val < 128 at this; omega⟩
      ⟨4 * (y 4).val + (y 0).val, by have := (y 0).isLt; change (y 0).val < 4 at this; have := (y 4).isLt; change (y 4).val < 128 at this; omega⟩)

/-- Field 0, even groups: both halves of the stored word are the low half of the transposed word. -/
theorem pay48_apply (v : Vec Ideal S128x2x128 .bf16) (u w : Fin 1) (p : Fin 128) (q : Fin 2) (b : Fin 128) :
    k0_pay48 (F := Ideal) (k0_pay46 v) (ix5 u w p q b) = v (ix3 b 0 p) := by
  pointwise [k0_pay48, k0_pay46]; simp

/-- Field 0, odd groups: both halves of the stored word are the high half of the transposed word. -/
theorem pay49_apply (v : Vec Ideal S128x2x128 .bf16) (u w : Fin 1) (p : Fin 128) (q : Fin 2) (b : Fin 128) :
    k0_pay49 (F := Ideal) (k0_pay47 v) (ix5 u w p q b) = v (ix3 b 1 p) := by
  pointwise [k0_pay49, k0_pay47]; simp

/-- Field 1, even groups: both halves are the low half. -/
theorem pay51_apply (v : Vec Ideal S128x2x128 .bf16) (u w : Fin 1) (p : Fin 128) (q : Fin 2) (b : Fin 128) :
    k0_pay51 (F := Ideal) v (ix5 u w p q b) = v (ix3 b 0 p) := by
  pointwise [k0_pay51]; simp

/-- Field 1, odd groups: both halves are the high half. -/
theorem pay52_apply (v : Vec Ideal S128x2x128 .bf16) (u w : Fin 1) (p : Fin 128) (q : Fin 2) (b : Fin 128) :
    k0_pay52 (F := Ideal) (k0_pay50 v) (ix5 u w p q b) = v (ix3 b 1 p) := by
  pointwise [k0_pay52, k0_pay50]; simp

/-- Field 2, even groups: both halves are the low half. -/
theorem pay53_apply (v : Vec Ideal S128x2x128 .bf16) (u w : Fin 1) (p : Fin 128) (q : Fin 2) (b : Fin 128) :
    k0_pay53 (F := Ideal) v (ix5 u w p q b) = v (ix3 b 0 p) := by
  pointwise [k0_pay53]; simp

/-- Field 2, odd groups: both halves are the high half. -/
theorem pay54_apply (v : Vec Ideal S128x2x128 .bf16) (u w : Fin 1) (p : Fin 128) (q : Fin 2) (b : Fin 128) :
    k0_pay54 (F := Ideal) v (ix5 u w p q b) = v (ix3 b 1 p) := by
  pointwise [k0_pay54]; simp

/-- Field 3, even groups: both halves are the low half. -/
theorem pay55_apply (v : Vec Ideal S128x2x128 .bf16) (u w : Fin 1) (p : Fin 128) (q : Fin 2) (b : Fin 128) :
    k0_pay55 (F := Ideal) v (ix5 u w p q b) = v (ix3 b 0 p) := by
  pointwise [k0_pay55]; simp

/-- Field 3, odd groups: both halves are the high half. -/
theorem pay56_apply (v : Vec Ideal S128x2x128 .bf16) (u w : Fin 1) (p : Fin 128) (q : Fin 2) (b : Fin 128) :
    k0_pay56 (F := Ideal) v (ix5 u w p q b) = v (ix3 b 1 p) := by
  pointwise [k0_pay56]; simp

/-- `TR` at row `4 b + j`, half `e` and lane `p` is `SM` at field `j`, parity `e`, row `p` and lane `b`. -/
theorem tr_eq_sm (sc mn : Vec Ideal S128x512 .bf16) (i : S512x2x128.Idx) (y : S4x2x128x2x128.Idx)
    (h0 : (i 0 : ℕ) = 4 * (y 4 : ℕ) + (y 0 : ℕ)) (h1 : (i 1 : ℕ) = (y 1 : ℕ)) (h2 : (i 2 : ℕ) = (y 2 : ℕ)) :
    TR sc mn i = SM sc mn y := by
  unfold TR SM
  simp only [h1, h2]
  split
  all_goals (congr 2; exact Fin.ext h0)

/-- After the eight stores the second scratch is `SM`, at a grid point between the first and the last chunk. -/
theorem sm_canon (c : Dev nD) (arg4 : Memref sig .tc .vmem S128x512 .bf16) (h4 : arg4.IsWhole) (arg5 : Memref sig .tc .vmem S128x512 .bf16)
    (h5 : arg5.IsWhole) (arg9 : Memref sig .tc .vmem S512x2x128 .bf16)
    (sc mn : Vec Ideal S128x512 .bf16) (y : S4x2x128x2x128.Idx) :
    View.canon (kernelRun0_B.sl.HS3_8 (F := Ideal) c arg4 h4 arg5 h5 arg9 sc mn) y = SM sc mn y := by
  unfold kernelRun0_B.sl.HS3_8
  sl_unfold_run_values
  simp only [View.readCov_eq_canon', tr_canon]
  canon_tiles x h
  all_goals idx_vars x
  · refine (pay56_apply _ _ _ _ _ _).trans (tr_eq_sm _ _ _ _ ?_ ?_ ?_) <;> simp [LoadRect.idx] <;> omega
  · refine (pay55_apply _ _ _ _ _ _).trans (tr_eq_sm _ _ _ _ ?_ ?_ ?_) <;> simp [LoadRect.idx] <;> omega
  · refine (pay54_apply _ _ _ _ _ _).trans (tr_eq_sm _ _ _ _ ?_ ?_ ?_) <;> simp [LoadRect.idx] <;> omega
  · refine (pay53_apply _ _ _ _ _ _).trans (tr_eq_sm _ _ _ _ ?_ ?_ ?_) <;> simp [LoadRect.idx] <;> omega
  · refine (pay52_apply _ _ _ _ _ _).trans (tr_eq_sm _ _ _ _ ?_ ?_ ?_) <;> simp [LoadRect.idx] <;> omega
  · refine (pay51_apply _ _ _ _ _ _).trans (tr_eq_sm _ _ _ _ ?_ ?_ ?_) <;> simp [LoadRect.idx] <;> omega
  · refine (pay49_apply _ _ _ _ _ _).trans (tr_eq_sm _ _ _ _ ?_ ?_ ?_) <;> simp [LoadRect.idx] <;> omega
  · refine (pay48_apply _ _ _ _ _ _).trans (tr_eq_sm _ _ _ _ ?_ ?_ ?_) <;> simp [LoadRect.idx] <;> omega

/-- The same at a point of the first chunk. -/
theorem sm_canon_A (c : Dev nD) (arg4 : Memref sig .tc .vmem S128x512 .bf16) (h4 : arg4.IsWhole) (arg5 : Memref sig .tc .vmem S128x512 .bf16)
    (h5 : arg5.IsWhole) (arg9 : Memref sig .tc .vmem S512x2x128 .bf16)
    (sc mn : Vec Ideal S128x512 .bf16) (y : S4x2x128x2x128.Idx) :
    View.canon (kernelRun0_A.sl.HS3_8 (F := Ideal) c arg4 h4 arg5 h5 arg9 sc mn) y = SM sc mn y :=
  sm_canon c arg4 h4 arg5 h5 arg9 sc mn y

/-- The same at a point of the last chunk. -/
theorem sm_canon_C (c : Dev nD) (arg4 : Memref sig .tc .vmem S128x512 .bf16) (h4 : arg4.IsWhole) (arg5 : Memref sig .tc .vmem S128x512 .bf16)
    (h5 : arg5.IsWhole) (arg9 : Memref sig .tc .vmem S512x2x128 .bf16)
    (sc mn : Vec Ideal S128x512 .bf16) (y : S4x2x128x2x128.Idx) :
    View.canon (kernelRun0_C.sl.HS3_8 (F := Ideal) c arg4 h4 arg5 h5 arg9 sc mn) y = SM sc mn y :=
  sm_canon c arg4 h4 arg5 h5 arg9 sc mn y

end Cert.KernelIdeal.Pf
-- ==== Proof.Trip.lean ====
module

public import proofs.«01_k».proof.Proof.Staging
public import Idealize.ShloMosaic.Lib.BitcastFour

/-!
  One trip of the loop that decodes the weights: what each of its eight stores writes.

  A trip takes 32 rows of packed bytes as 8 rows of 32-bit words, shifts a word right by twice the field number and masks it, and reads
  the words as bytes again. `byte_code` says that this gives the two-bit code of each byte, though the shift carries bits from one byte
  to the next. The eight `pay…_apply` theorems say that each store writes code times scale plus minimum.
-/

@[expose] public section

set_option maxRecDepth 16384

noncomputable section

open Idealize.ShloMosaic Idealize.ShloMosaic.TcCoe Idealize.SL.Sem

namespace Cert.KernelIdeal.Pf

open Cert.KernelIdeal Cert.KernelIdeal.Gen Idealize.ShloMosaic.Tactic

/-- The two-bit code of field `j` of a packed byte: bits `2 j` and `2 j + 1`, as a number 0 to 3. -/
def code (b : BitVec 8) (j : ℕ) : EReal := ((((b.toNat >>> (2 * j)) % 4 : ℕ) : ℝ) : EReal)

/-- The mask 0x03030303 has exactly the two lowest bits of each byte set. -/
theorem mask_bit (q : ℕ) (h : q < 32) : (50529027#32).getLsbD q = decide (q % 8 < 2) := by
  interval_cases q <;> rfl

/-- A bit of a word shifted right by `n` and masked: bit `n + q` of the word where the mask has bit `q`. -/
theorem shr_bit (x y : BitVec 32) (n q : ℕ) (hy : y.toNat = n) (hn : n < 32) (hq : q < 32) :
    (IntOp.andi (IntOp.shrui .vector x y) 50529027#32).getLsbD q = (x.getLsbD (n + q) && decide (q % 8 < 2)) := by
  unfold IntOp.andi IntOp.shrui
  rw [if_pos (by omega), BitVec.getLsbD_and, mask_bit q hq, BitVec.ushiftRight_eq', BitVec.getLsbD_ushiftRight, hy]

/-- Shifting and masking whole words gives, byte for byte, the code of that byte: the two bits kept in a byte come from the same
    byte, because field `j` ends at bit `2 j + 1`, below 8. -/
theorem byte_code (w : IVec S32x128 8) (v : IVec S8x128 32) (y : BitVec 32) (j : ℕ) (hy : y.toNat = 2 * j) (hj : j < 4)
    (h : S32x128.Bitcasts 8 S8x128 32) (h' : S8x128.Bitcasts 32 S32x128 8)
    (hv : ∀ i, v i = IntOp.andi (IntOp.shrui .vector (bitcast S8x128 32 w h i) y) 50529027#32) (r : Fin 32) (l : Fin 128) :
    (FloatOps.uitofp (F := Ideal) .bf16 (bitcast S32x128 8 v h' (ix2 r l)) : EReal) = code (w (ix2 r l)) j := by
  have key : bitcast S32x128 8 v h' (ix2 r l) = (w (ix2 r l) >>> (2 * j)) &&& 3#8 := by
    apply BitVec.eq_of_getLsbD_eq
    intro q hq
    rw [bitcast_getLsbD v h' _ q hq (by decide)]
    have hrow : S32x128.row (ix2 r l) = r.val := rfl
    have hsrc : ∀ hp, h'.srcIdx (ix2 r l) ((S32x128.row (ix2 r l) * 8 + q) / 32) hp = ix2 ⟨r.val / 4, by omega⟩ l := by
      intro hp
      funext a
      match a with
      | ⟨0, _⟩ => exact Fin.ext ((h'.srcIdx_row _ _ hp ⟨0, Nat.zero_lt_two⟩ rfl).trans (by rw [hrow]; show _ = r.val / 4; omega))
      | ⟨1, _⟩ => exact Fin.ext (h'.srcIdx_other _ _ hp ⟨1, Nat.one_lt_two⟩ (by decide))
    rw [hsrc, hv, hrow, shr_bit _ _ (2 * j) _ hy (by omega) (by omega)]
    have h3 : (3#8).getLsbD q = decide (q < 2) := by interval_cases q <;> rfl
    rw [BitVec.getLsbD_and, BitVec.getLsbD_ushiftRight, h3]
    by_cases hq2 : q < 2
    · have e1 : (r.val * 8 + q) % 32 = 8 * (r.val % 4) + q := by omega
      have e4 : (bitcast S8x128 32 w h (ix2 ⟨r.val / 4, by omega⟩ l)).getLsbD (2 * j + (8 * (r.val % 4) + q))
          = (w (ix2 r l)).getLsbD ((2 * j + (8 * (r.val % 4) + q)) % 8) :=
        bitcast_8_32_getLsbD_ix2 w h ⟨r.val / 4, by omega⟩ l _ (by omega) r (by show r.val = 4 * (r.val / 4) + _; omega)
      rw [e1, e4]
      have e2 : (2 * j + (8 * (r.val % 4) + q)) % 8 = 2 * j + q := by omega
      have e3 : (8 * (r.val % 4) + q) % 8 < 2 := by omega
      rw [e2, decide_eq_true e3, decide_eq_true hq2]
    · have e1 : ¬ ((r.val * 8 + q) % 32) % 8 < 2 := by omega
      rw [decide_eq_false e1, decide_eq_false hq2, Bool.and_false, Bool.and_false]
  rw [key]
  show (((((w (ix2 r l)) >>> (2 * j)) &&& 3#8).toNat : ℝ) : EReal) = _
  unfold code
  rw [BitVec.toNat_and, BitVec.toNat_ushiftRight]
  show ((((_ &&& 3 : ℕ)) : ℝ) : EReal) = _
  rw [show (3 : ℕ) = 2 ^ 2 - 1 from rfl, Nat.and_two_pow_sub_one_eq_mod]

/-- The codes of field 0, as numbers, for the 32 rows of a trip. -/
theorem code0 (w : Vec Ideal S32x128 .i8) (r : Fin 32) (l : Fin 128) : k0_pay4 (F := Ideal) w (ix2 r l) = code (w (ix2 r l)) 0 :=
  byte_code w (andi (shrui (k0_pay3 (F := Ideal) w) (broadcast S8x128 0#32)) (broadcast S8x128 50529027#32)) 0#32 0 rfl (by decide)
    bitcasts_S32x128_w8_S8x128_w32 bitcasts_S8x128_w32_S32x128_w8 (fun _ => rfl) r l

/-- The codes of field 1, as numbers, for the 32 rows of a trip. -/
theorem code1 (w : Vec Ideal S32x128 .i8) (r : Fin 32) (l : Fin 128) :
    k0_pay7 (F := Ideal) (k0_pay3 (F := Ideal) w) (ix2 r l) = code (w (ix2 r l)) 1 :=
  byte_code w (andi (shrui (k0_pay3 (F := Ideal) w) (broadcast S8x128 2#32)) (broadcast S8x128 50529027#32)) 2#32 1 rfl (by decide)
    bitcasts_S32x128_w8_S8x128_w32 bitcasts_S8x128_w32_S32x128_w8 (fun _ => rfl) r l

/-- The codes of field 2, as numbers, for the 32 rows of a trip. -/
theorem code2 (w : Vec Ideal S32x128 .i8) (r : Fin 32) (l : Fin 128) :
    k0_pay15 (F := Ideal) (k0_pay3 (F := Ideal) w) (ix2 r l) = code (w (ix2 r l)) 2 :=
  byte_code w (andi (shrui (k0_pay3 (F := Ideal) w) (broadcast S8x128 4#32)) (broadcast S8x128 50529027#32)) 4#32 2 rfl (by decide)
    bitcasts_S32x128_w8_S8x128_w32 bitcasts_S8x128_w32_S32x128_w8 (fun _ => rfl) r l

/-- The codes of field 3, as numbers, for the 32 rows of a trip. -/
theorem code3 (w : Vec Ideal S32x128 .i8) (r : Fin 32) (l : Fin 128) :
    k0_pay18 (F := Ideal) (k0_pay3 (F := Ideal) w) (ix2 r l) = code (w (ix2 r l)) 3 :=
  byte_code w (andi (shrui (k0_pay3 (F := Ideal) w) (broadcast S8x128 6#32)) (broadcast S8x128 50529027#32)) 6#32 3 rfl (by decide)
    bitcasts_S32x128_w8_S8x128_w32 bitcasts_S8x128_w32_S32x128_w8 (fun _ => rfl) r l

/-- The half of a word that row `r` of a tile of 16 rows holds: the words split into pairs of rows, so it is `r` modulo 2. -/
abbrev par (r : Fin 16) : Fin 2 := ⟨r.val % 2, Nat.mod_lt _ (by decide)⟩

/-- Eight equal words split into 16 rows give at row `r` the half `par r`, of the scale and of the minimum alike. -/
theorem par_cases (s m : Vec Ideal S1x1x1x2x128 .bf16) (r : Fin 16) (l : Fin 128) (a : EReal) :
    (a * (if r.val % 2 = 0 then (s (ix5 0 0 0 0 l) : EReal) else s (ix5 0 0 0 1 l))
      + if r.val % 2 = 0 then (m (ix5 0 0 0 0 l) : EReal) else m (ix5 0 0 0 1 l))
      = a * s (ix5 0 0 0 (par r) l) + m (ix5 0 0 0 (par r) l) := by
  rcases Nat.mod_two_eq_zero_or_one r.val with h | h
  · rw [if_pos h, if_pos h, show par r = 0 from Fin.ext h]
  · rw [if_neg (by omega), if_neg (by omega), show par r = 1 from Fin.ext h]

/-- Field 0, rows 0 to 15 of the trip: code times scale plus minimum. -/
theorem pay5_apply (w : Vec Ideal S32x128 .i8) (s m : Vec Ideal S1x1x1x2x128 .bf16) (r : Fin 16) (l : Fin 128) :
    k0_pay5 (F := Ideal) w s m (ix2 r l)
      = code (w (ix2 ⟨r, by omega⟩ l)) 0 * s (ix5 0 0 0 (par r) l) + m (ix5 0 0 0 (par r) l) := by
  rw [← code0]
  pointwise [k0_pay5]
  simp only [dite_eq_ite, ite_self]
  exact par_cases s m r l _

/-- Field 0, rows 16 to 31 of the trip. -/
theorem pay6_apply (w : Vec Ideal S32x128 .i8) (s m : Vec Ideal S1x1x1x2x128 .bf16) (r : Fin 16) (l : Fin 128) :
    k0_pay6 (F := Ideal) (k0_pay4 w) s m (ix2 r l)
      = code (w (ix2 ⟨16 + r, by omega⟩ l)) 0 * s (ix5 0 0 0 (par r) l) + m (ix5 0 0 0 (par r) l) := by
  rw [← code0]
  pointwise [k0_pay6]
  simp only [dite_eq_ite, ite_self]
  exact par_cases s m r l _

/-- Field 1, rows 0 to 15 of the trip. -/
theorem pay10_apply (w : Vec Ideal S32x128 .i8) (s m : Vec Ideal S1x1x1x2x128 .bf16) (r : Fin 16) (l : Fin 128) :
    k0_pay10 (F := Ideal) (k0_pay7 (k0_pay3 (F := Ideal) w)) (k0_pay8 s) (k0_pay9 s) m (ix2 r l)
      = code (w (ix2 ⟨r, by omega⟩ l)) 1 * s (ix5 0 0 0 (par r) l) + m (ix5 0 0 0 (par r) l) := by
  rw [← code1]
  pointwise [k0_pay10, k0_pay8, k0_pay9]
  simp only [dite_eq_ite, ite_self]
  exact par_cases s m r l _

/-- Field 1, rows 16 to 31 of the trip. -/
theorem pay14_apply (w : Vec Ideal S32x128 .i8) (s m : Vec Ideal S1x1x1x2x128 .bf16) (r : Fin 16) (l : Fin 128) :
    k0_pay14 (F := Ideal) (k0_pay11 s) (k0_pay12 m) (k0_pay13 (k0_pay7 (k0_pay3 (F := Ideal) w))) (ix2 r l)
      = code (w (ix2 ⟨16 + r, by omega⟩ l)) 1 * s (ix5 0 0 0 (par r) l) + m (ix5 0 0 0 (par r) l) := by
  rw [← code1]
  pointwise [k0_pay14, k0_pay11, k0_pay12, k0_pay13]
  simp only [dite_eq_ite, ite_self]
  exact par_cases s m r l _

/-- Field 2, rows 0 to 15 of the trip. -/
theorem pay16_apply (w : Vec Ideal S32x128 .i8) (s m : Vec Ideal S1x1x1x2x128 .bf16) (r : Fin 16) (l : Fin 128) :
    k0_pay16 (F := Ideal) (k0_pay3 (F := Ideal) w) s m (ix2 r l)
      = code (w (ix2 ⟨r, by omega⟩ l)) 2 * s (ix5 0 0 0 (par r) l) + m (ix5 0 0 0 (par r) l) := by
  rw [← code2]
  pointwise [k0_pay16]
  simp only [dite_eq_ite, ite_self]
  exact par_cases s m r l _

/-- Field 2, rows 16 to 31 of the trip. -/
theorem pay17_apply (w : Vec Ideal S32x128 .i8) (s m : Vec Ideal S1x1x1x2x128 .bf16) (r : Fin 16) (l : Fin 128) :
    k0_pay17 (F := Ideal) (k0_pay15 (k0_pay3 (F := Ideal) w)) s m (ix2 r l)
      = code (w (ix2 ⟨16 + r, by omega⟩ l)) 2 * s (ix5 0 0 0 (par r) l) + m (ix5 0 0 0 (par r) l) := by
  rw [← code2]
  pointwise [k0_pay17]
  simp only [dite_eq_ite, ite_self]
  exact par_cases s m r l _

/-- Field 3, rows 0 to 15 of the trip. -/
theorem pay21_apply (w : Vec Ideal S32x128 .i8) (s m : Vec Ideal S1x1x1x2x128 .bf16) (r : Fin 16) (l : Fin 128) :
    k0_pay21 (F := Ideal) (k0_pay18 (k0_pay3 (F := Ideal) w)) (k0_pay19 s) (k0_pay20 s) m (ix2 r l)
      = code (w (ix2 ⟨r, by omega⟩ l)) 3 * s (ix5 0 0 0 (par r) l) + m (ix5 0 0 0 (par r) l) := by
  rw [← code3]
  pointwise [k0_pay21, k0_pay19, k0_pay20]
  simp only [dite_eq_ite, ite_self]
  exact par_cases s m r l _

/-- Field 3, rows 16 to 31 of the trip. -/
theorem pay57_apply (w : Vec Ideal S32x128 .i8) (s m : Vec Ideal S1x1x1x2x128 .bf16) (r : Fin 16) (l : Fin 128) :
    k0_pay57 (F := Ideal) (k0_pay22 (k0_pay18 (k0_pay3 (F := Ideal) w)) s m) (ix2 r l)
      = code (w (ix2 ⟨16 + r, by omega⟩ l)) 3 * s (ix5 0 0 0 (par r) l) + m (ix5 0 0 0 (par r) l) := by
  rw [← code3]
  pointwise [k0_pay57, k0_pay22]
  simp only [dite_eq_ite, ite_self]
  exact par_cases s m r l _

end Cert.KernelIdeal.Pf
-- ==== Proof.Loop.lean ====
module

public import proofs.«01_k».proof.Proof.Trip

/-!
  The whole loop that decodes the weights: after its 64 trips the scratch of decoded weights is `WD`.
-/

@[expose] public section

set_option maxRecDepth 16384

noncomputable section

open Idealize.ShloMosaic Idealize.ShloMosaic.TcCoe Idealize.SL.Sem

namespace Cert.KernelIdeal.Pf

open Cert.KernelIdeal Cert.KernelIdeal.Gen Idealize.ShloMosaic.Tactic

/-- The decoded weights of one chunk, at row `r` and column `128 j + l` (column `l` of field `j`): the code of field `j` of byte
    `(r, l)`, times the scale of group `r / 16` and column `4 l + j`, plus the minimum of the same group and column. -/
def WD (w : Vec Ideal S2048x128 .i8) (sc mn : FVec Ideal S128x512 .bf16) : FVec Ideal S2048x512 .bf16 := fun y =>
  code (w (ix2 (y 0) ⟨(y 1).val % 128, Nat.mod_lt _ (by decide)⟩)) ((y 1).val / 128)
      * sc (ix2 ⟨(y 0).val / 16, by have := (y 0).isLt; change (y 0).val < 2048 at this; omega⟩
          ⟨4 * ((y 1).val % 128) + (y 1).val / 128, by have := (y 1).isLt; change (y 1).val < 512 at this; omega⟩)
    + mn (ix2 ⟨(y 0).val / 16, by have := (y 0).isLt; change (y 0).val < 2048 at this; omega⟩
          ⟨4 * ((y 1).val % 128) + (y 1).val / 128, by have := (y 1).isLt; change (y 1).val < 512 at this; omega⟩)

/-- Code times scale plus minimum, with scale and minimum read out of the second scratch, is `WD` at the place where the trip
    stores it: trip `p`, field `j`, group parity `e`, row `r` and lane `l` of the tile. -/
theorem mix_eq (w : Vec Ideal S2048x128 .i8) (sc mn : Vec Ideal S128x512 .bf16) (S : Vec Ideal S4x2x128x2x128 .bf16)
    (hS : ∀ y, S y = SM sc mn y) (p j e : ℕ) (hp : p < 64) (r : Fin 16) (l : Fin 128) (iw : S2048x128.Idx) (is im : S4x2x128x2x128.Idx)
    (y : S2048x512.Idx) (hw0 : (iw 0 : ℕ) = 32 * p + 16 * e + r) (hw1 : (iw 1 : ℕ) = l)
    (hs0 : (is 0 : ℕ) = j) (hs1 : (is 1 : ℕ) = e) (hs2 : (is 2 : ℕ) = p) (hs4 : (is 4 : ℕ) = l)
    (hm0 : (im 0 : ℕ) = j) (hm1 : (im 1 : ℕ) = e) (hm2 : (im 2 : ℕ) = p + 64) (hm4 : (im 4 : ℕ) = l)
    (hy0 : (y 0 : ℕ) = 32 * p + 16 * e + r) (hy1 : (y 1 : ℕ) = 128 * j + l) :
    (code (w iw) j * S is + S im : EReal) = WD w sc mn y := by
  rw [hS, hS]
  unfold WD SM
  have e1 : (y 1).val / 128 = j := by omega
  have e2 : (y 1).val % 128 = l.val := by omega
  rw [dif_pos (by omega), dif_neg (by omega)]
  simp only [e1, e2, hs0, hs1, hs2, hs4, hm0, hm1, hm2, hm4]
  have hiw : iw = ix2 (y 0) ⟨l.val, l.isLt⟩ := by
    refine (eq_ix2 iw).trans ((ix2_inj ..).2 ⟨Fin.ext (hw0.trans hy0.symm), Fin.ext hw1⟩)
  refine congrArg₂ (· + ·) (congrArg₂ (· * ·) ?_ (congrArg sc ?_)) (congrArg mn ?_)
  · exact congrArg (fun i => code (w i) j) hiw
  · exact (ix2_inj ..).2 ⟨Fin.ext (by show 2 * p + e = (y 0).val / 16; omega), rfl⟩
  · exact (ix2_inj ..).2 ⟨Fin.ext (by show 2 * (p + 64 - 64) + e = (y 0).val / 16; omega), rfl⟩

variable {𝒱 : Variants} (c : Dev nD) (bd : Option 𝒱.V) (i : grid0.Coords) (arg2 : Memref sig .tc .vmem S192x16384 .bf16) (harg2 : arg2.IsWhole) (arg3 : Memref sig .tc .vmem S2048x128 .i8) (harg3 : arg3.IsWhole)
    (arg4 : Memref sig .tc .vmem S128x512 .bf16) (harg4 : arg4.IsWhole) (arg5 : Memref sig .tc .vmem S128x512 .bf16) (harg5 : arg5.IsWhole)
    (arg6 : Memref sig .tc .vmem S192x512 .bf16) (harg6 : arg6.IsWhole) (arg7 : Memref sig .tc .vmem S192x512 .f32) (harg7 : arg7.IsWhole)
    (arg8 : Memref sig .tc .vmem S2048x512 .bf16) (harg8 : arg8.IsWhole) (arg9 : Memref sig .tc .vmem S512x2x128 .bf16) (harg9 : arg9.IsWhole)
    (arg10 : Memref sig .tc .vmem S4x2x128x2x128 .bf16) (harg10 : arg10.IsWhole)
    (arg1 : BitVec 32) (X_arg3 : BufTy.Contents (Elt Ideal) arg3.view.ty) (X_arg10 : BufTy.Contents (Elt Ideal) arg10.view.ty)
    (sc mn : Vec Ideal S128x512 .bf16)

/-- Every store of a trip writes the values of `WD`. -/
theorem trip_mem (k : Fin k0_t1_loop.trips) (hs : ∀ y, arg10.view.read _ X_arg10 y = SM sc mn y) :
    View.PiecesOf (WD (arg3.view.read _ X_arg3) sc mn) (tripL_k0_t1 (F := Ideal) 𝒱 c bd i arg2 harg2 arg3 harg3 arg4 harg4 arg5 harg5 arg6 harg6 arg7 harg7 arg8 harg8 arg9 harg9 arg10 harg10 arg1 X_arg3 X_arg10 k) := by
  unfold tripL_k0_t1 trip_k0_t1
  dsimp only
  sl_unfold_run_names
  simp only [View.readAt_eq_ld]
  have hk : k.val < 64 := Nat.lt_of_lt_of_le k.isLt k0_t1_abs.2.1
  have o4 : k0_off4 k 0#32 = ![32 * k.val, 0] := k0_off4_eq k 0
  have o4' : k0_off4 k 16#32 = ![32 * k.val + 16, 0] := k0_off4_eq k 1
  have o9 : k0_off9 k 0#32 = ![32 * k.val, 128] := k0_off9_eq k 0
  have o9' : k0_off9 k 16#32 = ![32 * k.val + 16, 128] := k0_off9_eq k 1
  have o14 : k0_off14 k 0#32 = ![32 * k.val, 256] := k0_off14_eq k 0
  have o14' : k0_off14 k 16#32 = ![32 * k.val + 16, 256] := k0_off14_eq k 1
  have o19 : k0_off19 k 0#32 = ![32 * k.val, 384] := k0_off19_eq k 0
  have o19' : k0_off19 k 16#32 = ![32 * k.val + 16, 384] := k0_off19_eq k 1
  refine ⟨?_, ?_, ?_, ?_, ?_, ?_, ?_, ?_, trivial⟩
  · intro x
    idx_vars x
    refine (pay57_apply _ _ _ _ _).trans (mix_eq _ sc mn _ hs k.val 3 1 hk x0 x1 _ _ _ _ ?_ ?_ ?_ ?_ ?_ ?_ ?_ ?_ ?_ ?_ ?_ ?_) <;>
      simp [LoadRect.idx, k0_off1_eq, k0_off20_eq, k0_off21_eq, o19'] <;> omega
  · intro x
    idx_vars x
    refine (pay21_apply _ _ _ _ _).trans (mix_eq _ sc mn _ hs k.val 3 0 hk x0 x1 _ _ _ _ ?_ ?_ ?_ ?_ ?_ ?_ ?_ ?_ ?_ ?_ ?_ ?_) <;>
      simp [LoadRect.idx, k0_off1_eq, k0_off17_eq, k0_off18_eq, o19] <;> omega
  · intro x
    idx_vars x
    refine (pay17_apply _ _ _ _ _).trans (mix_eq _ sc mn _ hs k.val 2 1 hk x0 x1 _ _ _ _ ?_ ?_ ?_ ?_ ?_ ?_ ?_ ?_ ?_ ?_ ?_ ?_) <;>
      simp [LoadRect.idx, k0_off1_eq, k0_off15_eq, k0_off16_eq, o14'] <;> omega
  · intro x
    idx_vars x
    refine (pay16_apply _ _ _ _ _).trans (mix_eq _ sc mn _ hs k.val 2 0 hk x0 x1 _ _ _ _ ?_ ?_ ?_ ?_ ?_ ?_ ?_ ?_ ?_ ?_ ?_ ?_) <;>
      simp [LoadRect.idx, k0_off1_eq, k0_off12_eq, k0_off13_eq, o14] <;> omega
  · intro x
    idx_vars x
    refine (pay14_apply _ _ _ _ _).trans (mix_eq _ sc mn _ hs k.val 1 1 hk x0 x1 _ _ _ _ ?_ ?_ ?_ ?_ ?_ ?_ ?_ ?_ ?_ ?_ ?_ ?_) <;>
      simp [LoadRect.idx, k0_off1_eq, k0_off10_eq, k0_off11_eq, o9'] <;> omega
  · intro x
    idx_vars x
    refine (pay10_apply _ _ _ _ _).trans (mix_eq _ sc mn _ hs k.val 1 0 hk x0 x1 _ _ _ _ ?_ ?_ ?_ ?_ ?_ ?_ ?_ ?_ ?_ ?_ ?_ ?_) <;>
      simp [LoadRect.idx, k0_off1_eq, k0_off7_eq, k0_off8_eq, o9] <;> omega
  · intro x
    idx_vars x
    refine (pay6_apply _ _ _ _ _).trans (mix_eq _ sc mn _ hs k.val 0 1 hk x0 x1 _ _ _ _ ?_ ?_ ?_ ?_ ?_ ?_ ?_ ?_ ?_ ?_ ?_ ?_) <;>
      simp [LoadRect.idx, k0_off1_eq, k0_off5_eq, k0_off6_eq, o4'] <;> omega
  · intro x
    idx_vars x
    refine (pay5_apply _ _ _ _ _).trans (mix_eq _ sc mn _ hs k.val 0 0 hk x0 x1 _ _ _ _ ?_ ?_ ?_ ?_ ?_ ?_ ?_ ?_ ?_ ?_ ?_ ?_) <;>
      simp [LoadRect.idx, k0_off1_eq, k0_off2_eq, k0_off3_eq, o4] <;> omega

/-- The stores of trip `k` cover the rows `32 k` to `32 k + 31`. -/
theorem trip_cover (k : Fin k0_t1_loop.trips) (y : S2048x512.Idx) (hy : (y 0).val / 32 = k.val) :
    ∃ p ∈ tripL_k0_t1 (F := Ideal) 𝒱 c bd i arg2 harg2 arg3 harg3 arg4 harg4 arg5 harg5 arg6 harg6 arg7 harg7 arg8 harg8 arg9 harg9 arg10 harg10 arg1 X_arg3 X_arg10 k, y ∈ p.1.set := by
  unfold tripL_k0_t1 trip_k0_t1
  dsimp only
  have o4 : k0_off4 k 0#32 = ![32 * k.val, 0] := k0_off4_eq k 0
  have o4' : k0_off4 k 16#32 = ![32 * k.val + 16, 0] := k0_off4_eq k 1
  have o9 : k0_off9 k 0#32 = ![32 * k.val, 128] := k0_off9_eq k 0
  have o9' : k0_off9 k 16#32 = ![32 * k.val + 16, 128] := k0_off9_eq k 1
  have o14 : k0_off14 k 0#32 = ![32 * k.val, 256] := k0_off14_eq k 0
  have o14' : k0_off14 k 16#32 = ![32 * k.val + 16, 256] := k0_off14_eq k 1
  have o19 : k0_off19 k 0#32 = ![32 * k.val, 384] := k0_off19_eq k 0
  have o19' : k0_off19 k 16#32 = ![32 * k.val + 16, 384] := k0_off19_eq k 1
  have h1 : (y 1).val < 512 := (y 1).isLt
  simp only [List.exists_mem_cons_iff, Rect.mem_set_unit, o4, o4', o9, o9', o14, o14', o19, o19']
  simp [Fin.forall_fin_two]
  omega

/-- A list built up trip by trip: what is true of the elements of each trip's list is true of all elements, and each element of an
    earlier trip is still in the list. -/
theorem mem_of_succ {α : Type} {N : ℕ} (L : Fin N → List α) (pb : ℕ → List α) (h0 : pb 0 = [])
    (hs : ∀ k : Fin N, pb (k.val + 1) = L k ++ pb k.val) (P : α → Prop) (hP : ∀ k, ∀ p ∈ L k, P p) :
    ∀ n ≤ N, (∀ p ∈ pb n, P p) ∧ ∀ k : Fin N, k.val < n → ∀ p ∈ L k, p ∈ pb n := by
  intro n
  induction n with
  | zero => intro _; rw [h0]; exact ⟨fun p hp => absurd hp List.not_mem_nil, fun k hk => absurd hk (Nat.not_lt_zero _)⟩
  | succ n ih =>
    intro hn
    obtain ⟨ih1, ih2⟩ := ih (by omega)
    rw [hs ⟨n, hn⟩]
    refine ⟨fun p hp => ?_, fun k hk p hp => ?_⟩
    · rcases List.mem_append.1 hp with h | h
      · exact hP _ p h
      · exact ih1 p h
    · rcases Nat.lt_succ_iff_lt_or_eq.1 hk with h | h
      · exact List.mem_append.2 (.inr (ih2 k h p hp))
      · exact List.mem_append.2 (.inl (by rwa [show k = ⟨n, hn⟩ from Fin.ext h] at hp))

/-- The loop makes 64 trips. -/
theorem trips_eq : k0_t1_loop.trips = 64 := by decide +kernel

/-- After the loop the scratch of decoded weights is `WD`, if the second scratch held `SM` before it. -/
theorem wd_canon (hs : ∀ y, arg10.view.read _ X_arg10 y = SM sc mn y) (y : S2048x512.Idx) :
    View.canon (pb_k0_t1 (F := Ideal) 𝒱 c bd i arg2 harg2 arg3 harg3 arg4 harg4 arg5 harg5 arg6 harg6 arg7 harg7 arg8 harg8 arg9 harg9 arg10 harg10 arg1 X_arg3 X_arg10 k0_t1_loop.trips) y
      = WD (arg3.view.read _ X_arg3) sc mn y := by
  have h0 : (y 0).val < 2048 := (y 0).isLt
  obtain ⟨hm, hc⟩ := mem_of_succ (fun k => tripL_k0_t1 (F := Ideal) 𝒱 c bd i arg2 harg2 arg3 harg3 arg4 harg4 arg5 harg5 arg6 harg6 arg7 harg7 arg8 harg8 arg9 harg9 arg10 harg10 arg1 X_arg3 X_arg10 k)
    (pb_k0_t1 (F := Ideal) 𝒱 c bd i arg2 harg2 arg3 harg3 arg4 harg4 arg5 harg5 arg6 harg6 arg7 harg7 arg8 harg8 arg9 harg9 arg10 harg10 arg1 X_arg3 X_arg10) rfl
    (fun k => pb_k0_t1_succ (F := Ideal) 𝒱 c bd i arg2 harg2 arg3 harg3 arg4 harg4 arg5 harg5 arg6 harg6 arg7 harg7 arg8 harg8 arg9 harg9 arg10 harg10 arg1 X_arg3 X_arg10 k)
    (fun p => ∀ x : p.1.shape.Idx, p.2 x = WD (arg3.view.read _ X_arg3) sc mn (p.1.emb x))
    (fun k => (trip_mem c bd i arg2 harg2 arg3 harg3 arg4 harg4 arg5 harg5 arg6 harg6 arg7 harg7 arg8 harg8 arg9 harg9 arg10 harg10 arg1 X_arg3 X_arg10 sc mn k hs).mem) _ le_rfl
  refine View.canon_apply_of_pieces _ _ hm y ?_
  have hk : (y 0).val / 32 < k0_t1_loop.trips := by rw [trips_eq]; omega
  obtain ⟨p, hp, hy⟩ := trip_cover (𝒱 := 𝒱) c bd i arg2 harg2 arg3 harg3 arg4 harg4 arg5 harg5 arg6 harg6 arg7 harg7 arg8 harg8 arg9 harg9 arg10 harg10 arg1 X_arg3 X_arg10 ⟨_, hk⟩ y rfl
  exact ⟨p, hc _ hk p hp, hy⟩

end Cert.KernelIdeal.Pf
-- ==== Proof.Chunk.lean ====
module

public import proofs.«01_k».proof.Proof.Loop

/-!
  The accumulator after one grid point: what it held before, or zero at the first chunk, plus one chunk of the product.
-/

@[expose] public section

set_option maxRecDepth 16384

noncomputable section

open Idealize.ShloMosaic Idealize.ShloMosaic.TcCoe Idealize.SL.Sem

namespace Cert.KernelIdeal.Pf

open Cert.KernelIdeal Cert.KernelIdeal.Gen Idealize.ShloMosaic.Tactic

/-- One chunk of the product: the sum over the 2048 rows of chunk `kk` of activation times decoded weight. -/
def PART (x : FVec Ideal S192x16384 .bf16) (w : Vec Ideal S2048x128 .i8) (sc mn : FVec Ideal S128x512 .bf16) (kk : Fin 8) :
    FVec Ideal S192x512 .f32 := fun y =>
  ∑ r : Fin 2048, x (ix2 (y 0) ⟨2048 * kk.val + r.val, by omega⟩) * WD w sc mn (ix2 r (y 1))

/-- The accumulating store: what was there plus the product of the slice of activations with the decoded weights. -/
theorem pay1_apply (acc : Vec Ideal S192x512 .f32) (x : Vec Ideal S192x2048 .bf16) (wd : Vec Ideal S2048x512 .bf16) (i : Fin 192) (l : Fin 512) :
    k0_pay1 (F := Ideal) acc x wd (ix2 i l) = acc (ix2 i l) + ∑ r : Fin 2048, x (ix2 i r) * wd (ix2 r l) := by
  pointwise [k0_pay1]

variable (c : Dev nD) (i : grid0.Coords) (arg2 : Memref sig .tc .vmem S192x16384 .bf16) (harg2 : arg2.IsWhole) (arg3 : Memref sig .tc .vmem S2048x128 .i8) (harg3 : arg3.IsWhole)
    (arg4 : Memref sig .tc .vmem S128x512 .bf16) (harg4 : arg4.IsWhole) (arg5 : Memref sig .tc .vmem S128x512 .bf16) (harg5 : arg5.IsWhole)
    (arg6 : Memref sig .tc .vmem S192x512 .bf16) (harg6 : arg6.IsWhole) (arg7 : Memref sig .tc .vmem S192x512 .f32) (harg7 : arg7.IsWhole)
    (arg8 : Memref sig .tc .vmem S2048x512 .bf16) (harg8 : arg8.IsWhole) (arg9 : Memref sig .tc .vmem S512x2x128 .bf16) (harg9 : arg9.IsWhole)
    (arg10 : Memref sig .tc .vmem S4x2x128x2x128 .bf16) (harg10 : arg10.IsWhole)

/-- The same store with the slice of activations and the decoded weights put in: it adds `PART`. -/
theorem chunk (X : _) (L : _) (w : Vec Ideal S2048x128 .i8) (sc mn : Vec Ideal S128x512 .bf16) (x : Vec Ideal S192x16384 .bf16)
    (acc : Vec Ideal S192x512 .f32) (hL : ∀ y, View.canon (Val := Elt Ideal) (e := .bf16) (s := S4x2x128x2x128) L y = SM sc mn y)
    (h : _) (h' : _) (y : S192x512.Idx) :
    k0_pay1 (F := Ideal) acc (View.ld x (Rect.unit (s := S192x16384) (k0_off22 i) ![192, 2048] h))
      (fun j => View.canon
          (pb_k0_t1 (F := Ideal) Variants.none c none i arg2 harg2 arg3 harg3 arg4 harg4 arg5 harg5 arg6 harg6 arg7 harg7 arg8 harg8
            arg9 harg9 arg10 harg10 X (harg3.unread w)
            (arg10.view.writes (Elt Ideal) arg10.view.junk L)
            (Scf.trips (0#32) (Scalar.addi 0#32 64#32) 1#32))
          ((Rect.unit (s := S2048x512) ![0, 0] ![2048, 512] h').toLoadRect.idx j)) y = acc y + PART x w sc mn (i 1) y := by
  obtain ⟨a, b, rfl⟩ : ∃ a b, y = ix2 a b := ⟨_, _, eq_ix2 y⟩
  refine (pay1_apply _ _ _ a b).trans (Ideal.add_congr rfl (Finset.sum_congr rfl fun r _ => Ideal.mul_congr ?_ ?_))
  · refine congrArg x ((eq_ix2 _).trans ((ix2_inj ..).2 ⟨Fin.ext ?_, Fin.ext ?_⟩)) <;> simp [LoadRect.idx, k0_off22_eq]
  · have hw := wd_canon (𝒱 := Variants.none) c none i arg2 harg2 arg3 harg3 arg4 harg4 arg5 harg5 arg6 harg6 arg7 harg7 arg8 harg8
      arg9 harg9 arg10 harg10 X (harg3.unread w) (arg10.view.writes (Elt Ideal) arg10.view.junk L) sc mn
      (fun y => (congrFun (View.read_writes_junk_eq_canon _ L) y).trans (hL y))
      ((Rect.unit (s := S2048x512) ![0, 0] ![2048, 512] h').toLoadRect.idx (ix2 r b))
    rw [harg3.read_unread] at hw
    refine hw.trans (congrArg (WD w sc mn) ((eq_ix2 _).trans ((ix2_inj ..).2 ⟨Fin.ext ?_, Fin.ext ?_⟩))) <;> simp [LoadRect.idx]

/-- A point between the first and the last chunk adds `PART` to the accumulator. -/
theorem acc_B (hc0 : ¬cond0_0 i) (hc1 : ¬cond0_1 i) (x : Vec Ideal S192x16384 .bf16) (w : Vec Ideal S2048x128 .i8)
    (sc mn : Vec Ideal S128x512 .bf16) (acc : Vec Ideal S192x512 .f32) (y : S192x512.Idx) :
    sout0_B_0 (F := Ideal) c i arg2 harg2 arg3 harg3 arg4 harg4 arg5 harg5 arg6 harg6 arg7 harg7 arg8 harg8 arg9 harg9 arg10 harg10 hc0 hc1 x w sc mn acc y
      = acc y + PART x w sc mn (i 1) y := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x w sc mn acc)]
  unfold kernelRun0_B
  dsimp only
  rw [View.canon_unit_zero (by funext a; fin_cases a <;> rfl)]
  sl_unfold_run_values
  simp only [View.readAt_eq_ld, View.readCov_eq_canon', harg7.read_unread, harg2.read_unread]
  refine (chunk (x := x) (w := w) (hL := fun y => sm_canon ..) ..).trans (Ideal.add_congr ?_ rfl)
  rw [View.ld_unit_zero (S := S192x512) (by funext a; fin_cases a <;> rfl)]

/-- A point of the last chunk, before it writes the result out: the accumulator as the later loads see it. -/
theorem acc_list_C (x : Vec Ideal S192x16384 .bf16) (w : Vec Ideal S2048x128 .i8)
    (sc mn : Vec Ideal S128x512 .bf16) (acc : Vec Ideal S192x512 .f32) (y : S192x512.Idx) :
    View.canon (kernelRun0_C.sl.HS0_1 (F := Ideal) c i arg2 harg2 arg3 harg3 arg4 harg4 arg5 harg5 arg6 harg6 arg7 harg7 arg8 harg8 arg9 harg9 arg10 harg10 x w sc mn acc) y
      = acc y + PART x w sc mn (i 1) y := by
  unfold kernelRun0_C.sl.HS0_1
  sl_unfold_run_values
  rw [View.canon_unit_zero (by funext a; fin_cases a <;> rfl)]
  simp only [View.readAt_eq_ld, View.readCov_eq_canon', harg7.read_unread, harg2.read_unread]
  refine (chunk (x := x) (w := w) (hL := fun y => sm_canon_C ..) ..).trans (Ideal.add_congr ?_ rfl)
  rw [View.ld_unit_zero (S := S192x512) (by funext a; fin_cases a <;> rfl)]

/-- A point of the last chunk adds `PART` to the accumulator. -/
theorem acc_C (hc0 : ¬cond0_0 i) (hc1 : cond0_1 i) (x : Vec Ideal S192x16384 .bf16) (w : Vec Ideal S2048x128 .i8)
    (sc mn : Vec Ideal S128x512 .bf16) (acc : Vec Ideal S192x512 .f32) (y : S192x512.Idx) :
    sout0_C_0 (F := Ideal) c i arg2 harg2 arg3 harg3 arg4 harg4 arg5 harg5 arg6 harg6 arg7 harg7 arg8 harg8 arg9 harg9 arg10 harg10 hc0 hc1 x w sc mn acc y
      = acc y + PART x w sc mn (i 1) y := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x w sc mn acc)]
  unfold kernelRun0_C
  dsimp only
  exact acc_list_C c i arg2 harg2 arg3 harg3 arg4 harg4 arg5 harg5 arg6 harg6 arg7 harg7 arg8 harg8 arg9 harg9 arg10 harg10 x w sc mn acc y

/-- A point of the first chunk leaves zero plus `PART` in the accumulator. -/
theorem acc_A (hc0 : cond0_0 i) (hc1 : ¬cond0_1 i) (x : Vec Ideal S192x16384 .bf16) (w : Vec Ideal S2048x128 .i8)
    (sc mn : Vec Ideal S128x512 .bf16) (y : S192x512.Idx) :
    sout0_A_0 (F := Ideal) c i arg2 harg2 arg3 harg3 arg4 harg4 arg5 harg5 arg6 harg6 arg7 harg7 arg8 harg8 arg9 harg9 arg10 harg10 hc0 hc1 x w sc mn y
      = 0 + PART x w sc mn (i 1) y := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x w sc mn)]
  unfold kernelRun0_A
  dsimp only
  sl_unfold_run_values
  rw [View.canon_cons_unit_zero (by funext a; fin_cases a <;> rfl)]
  simp only [View.readAt_eq_ld, View.readCov_eq_canon', harg2.read_unread]
  refine (chunk (x := x) (w := w) (hL := fun y => sm_canon_A ..) ..).trans (Ideal.add_congr ?_ rfl)
  unfold kernelRun0_A.sl.HS0_1
  rw [View.canon_unit_zero (by funext a; fin_cases a <;> rfl)]
  pointwise [k0_pay58]

end Cert.KernelIdeal.Pf
-- ==== Proof.Out.lean ====
module

public import proofs.«01_k».proof.Proof.Chunk

/-!
  The output block, written at the last chunk.

  The accumulator has its columns by field. The kernel packs pairs of rows of each field into words, fills up with zeros to 128 words,
  transposes, stores to every fourth row of the first scratch, and transposes that scratch tile by tile. `TRO` says what the first
  scratch then holds, and `OUT` what the output block holds: the accumulator with its columns put back into interleaved order.
-/

@[expose] public section

set_option maxRecDepth 16384

noncomputable section

open Idealize.ShloMosaic Idealize.ShloMosaic.TcCoe Idealize.SL.Sem

namespace Cert.KernelIdeal.Pf

open Cert.KernelIdeal Cert.KernelIdeal.Gen Idealize.ShloMosaic.Tactic

/-- The transposed tile of one field: half `q` of word row `c` at lane `b` is row `2 b + q`, column `c`, and zero at the lanes
    that are only filled up. -/
def tile (v : Vec Ideal S192x128 .f32) (c : Fin 128) (q : Fin 2) (b : Fin 128) : EReal :=
  if h : b.val < 96 then v (ix2 ⟨2 * b.val + q.val, by omega⟩ c) else 0

/-- What the first scratch holds after the four stores of the last chunk: word row `4 l + j` is column `l` of field `j`, two rows
    to a word, zero from lane 96 on. -/
def TRO (a : FVec Ideal S192x512 .f32) : FVec Ideal S512x2x128 .bf16 := fun y =>
  if h : (y 2).val < 96 then
    a (ix2 ⟨2 * (y 2).val + (y 1).val, by have := (y 1).isLt; change (y 1).val < 2 at this; omega⟩
      ⟨(y 0).val % 4 * 128 + (y 0).val / 4, by have := (y 0).isLt; change (y 0).val < 512 at this; omega⟩)
  else 0

/-- The accumulator with its columns interleaved: output column `n` is column `n / 4` of field `n % 4`. -/
def OUT (a : FVec Ideal S192x512 .f32) : FVec Ideal S192x512 .bf16 := fun y =>
  a (ix2 (y 0) ⟨(y 1).val % 4 * 128 + (y 1).val / 4, by have := (y 1).isLt; change (y 1).val < 512 at this; omega⟩)

/-- The tile of field `k` is `TRO` at every fourth row, from row `k` on. -/
theorem tile_eq (a : FVec Ideal S192x512 .f32) (v : Vec Ideal S192x128 .f32) (k : ℕ) (hk : k < 4)
    (hv : ∀ (i : Fin 192) (l : Fin 128), v (ix2 i l) = a (ix2 i ⟨k * 128 + l.val, by omega⟩))
    (c : Fin 128) (q : Fin 2) (b : Fin 128) (y : S512x2x128.Idx)
    (h0 : (y 0 : ℕ) = k + 4 * c.val) (h1 : (y 1 : ℕ) = q.val) (h2 : (y 2 : ℕ) = b.val) : tile v c q b = TRO a y := by
  unfold tile TRO
  simp only [h0, h1, h2]
  split
  · rw [hv]
    congr 2
    apply Fin.ext
    dsimp only
    omega
  · rfl

/-- The words stored for field 0 are its `tile`. -/
theorem pay23_apply (v : Vec Ideal S192x128 .f32) (c : Fin 128) (q : Fin 2) (b : Fin 128) :
    k0_pay23 (F := Ideal) v (ix3 c q b) = tile v c q b := by
  pointwise [k0_pay23, tile]
  fin_cases q <;> simp

/-- The words stored for field 1 are its `tile`. -/
theorem pay28_apply (v : Vec Ideal S192x128 .f32) (c : Fin 128) (q : Fin 2) (b : Fin 128) :
    k0_pay28 (F := Ideal) (k0_pay26 v) (k0_pay27 v) (ix3 c q b) = tile v c q b := by
  pointwise [k0_pay28, k0_pay26, k0_pay27, k0_pay24, k0_pay25, tile]
  fin_cases q <;> simp

/-- The words stored for field 2 are its `tile`. -/
theorem pay29_apply (v : Vec Ideal S192x128 .f32) (c : Fin 128) (q : Fin 2) (b : Fin 128) :
    k0_pay29 (F := Ideal) v (ix3 c q b) = tile v c q b := by
  pointwise [k0_pay29, tile]
  fin_cases q <;> simp

/-- The words stored for field 3 are its `tile`. -/
theorem pay34_apply (v : Vec Ideal S192x128 .f32) (c : Fin 128) (q : Fin 2) (b : Fin 128) :
    k0_pay34 (F := Ideal) (k0_pay32 v) (k0_pay33 v) (ix3 c q b) = tile v c q b := by
  pointwise [k0_pay34, k0_pay32, k0_pay33, k0_pay30, k0_pay31, tile]
  fin_cases q <;> simp

/-- Choosing half 0 in even rows and half 1 in odd rows is taking the half `n % 2`. -/
theorem pick (v : Vec Ideal S128x2x128 .bf16) (n : ℕ) (c : Fin 128) (b : Fin 128) :
    (if n % 2 = 0 then v (ix3 c 0 b) else v (ix3 c 1 b)) = v (ix3 c ⟨n % 2, by omega⟩ b) := by
  rcases Nat.mod_two_eq_zero_or_one n with h | h
  · rw [if_pos h]; congr 2; exact Fin.ext h.symm
  · rw [if_neg (by omega)]; congr 2; exact Fin.ext h.symm

/-- The rows stored to the fourth tile of the output (columns 384 to 511): row `i` is half `i % 2` at lane `i / 2`. -/
theorem pay2_apply (v : Vec Ideal S128x2x128 .bf16) (i : Fin 192) (c : Fin 128) :
    k0_pay2 (F := Ideal) v (ix2 i c) = v (ix3 c ⟨i.val % 2, by omega⟩ ⟨i.val / 2, by omega⟩) := by
  pointwise [k0_pay2]
  exact pick v i.val c _

/-- The same of the first tile of the output (columns 0 to 127). -/
theorem pay35_apply (v : Vec Ideal S128x2x128 .bf16) (i : Fin 192) (c : Fin 128) :
    k0_pay35 (F := Ideal) v (ix2 i c) = v (ix3 c ⟨i.val % 2, by omega⟩ ⟨i.val / 2, by omega⟩) := by
  pointwise [k0_pay35]
  exact pick v i.val c _

/-- The same of the second tile of the output (columns 128 to 255). -/
theorem pay36_apply (v : Vec Ideal S128x2x128 .bf16) (i : Fin 192) (c : Fin 128) :
    k0_pay36 (F := Ideal) v (ix2 i c) = v (ix3 c ⟨i.val % 2, by omega⟩ ⟨i.val / 2, by omega⟩) := by
  pointwise [k0_pay36]
  exact pick v i.val c _

/-- The same of the third tile of the output (columns 256 to 383). -/
theorem pay37_apply (v : Vec Ideal S128x2x128 .bf16) (i : Fin 192) (c : Fin 128) :
    k0_pay37 (F := Ideal) v (ix2 i c) = v (ix3 c ⟨i.val % 2, by omega⟩ ⟨i.val / 2, by omega⟩) := by
  pointwise [k0_pay37]
  exact pick v i.val c _

variable (c : Dev nD) (i : grid0.Coords) (arg2 : Memref sig .tc .vmem S192x16384 .bf16) (harg2 : arg2.IsWhole) (arg3 : Memref sig .tc .vmem S2048x128 .i8) (harg3 : arg3.IsWhole)
    (arg4 : Memref sig .tc .vmem S128x512 .bf16) (harg4 : arg4.IsWhole) (arg5 : Memref sig .tc .vmem S128x512 .bf16) (harg5 : arg5.IsWhole)
    (arg6 : Memref sig .tc .vmem S192x512 .bf16) (harg6 : arg6.IsWhole) (arg7 : Memref sig .tc .vmem S192x512 .f32) (harg7 : arg7.IsWhole)
    (arg8 : Memref sig .tc .vmem S2048x512 .bf16) (harg8 : arg8.IsWhole) (arg9 : Memref sig .tc .vmem S512x2x128 .bf16) (harg9 : arg9.IsWhole)
    (arg10 : Memref sig .tc .vmem S4x2x128x2x128 .bf16) (harg10 : arg10.IsWhole)

/-- After the four stores of the last chunk the first scratch is `TRO` of the finished accumulator; they cover what the scratch
    held before. -/
theorem tro_canon (x : Vec Ideal S192x16384 .bf16) (w : Vec Ideal S2048x128 .i8)
    (sc mn : Vec Ideal S128x512 .bf16) (acc : Vec Ideal S192x512 .f32) (y : S512x2x128.Idx) :
    View.canon (kernelRun0_C.sl.HS2_8 (F := Ideal) c i arg2 harg2 arg3 harg3 arg4 harg4 arg5 harg5 arg6 harg6 arg7 harg7 arg8 harg8 arg9 harg9 arg10 harg10 x w sc mn acc) y
      = TRO (fun y => acc y + PART x w sc mn (i 1) y) y := by
  unfold kernelRun0_C.sl.HS2_8
  sl_unfold_run_values
  simp only [View.readCov_eq_canon', acc_list_C]
  refine View.canon_append_of_pieces _ (kernelRun0_C.sl.HS2_4 (F := Ideal) c arg4 harg4 arg5 harg5 sc mn) [_, _, _, _] ?_ y ?_
  · simp only [List.forall_mem_cons]
    refine ⟨fun z => ?_, fun z => ?_, fun z => ?_, fun z => ?_, fun _ h => absurd h List.not_mem_nil⟩
    · idx_vars z
      refine (pay34_apply _ _ _ _).trans (tile_eq _ _ 3 (by omega) (fun e l => ?_) _ _ _ _ ?_ ?_ ?_)
      · refine congrArg (fun y => acc y + PART x w sc mn (i 1) y) ((eq_ix2 _).trans ((ix2_inj ..).2 ⟨Fin.ext ?_, Fin.ext ?_⟩)) <;> simp [LoadRect.idx]
      all_goals exact (Rect.emb_apply ..).trans (by simp)
    · idx_vars z
      refine (pay29_apply _ _ _ _).trans (tile_eq _ _ 2 (by omega) (fun e l => ?_) _ _ _ _ ?_ ?_ ?_)
      · refine congrArg (fun y => acc y + PART x w sc mn (i 1) y) ((eq_ix2 _).trans ((ix2_inj ..).2 ⟨Fin.ext ?_, Fin.ext ?_⟩)) <;> simp [LoadRect.idx]
      all_goals exact (Rect.emb_apply ..).trans (by simp)
    · idx_vars z
      refine (pay28_apply _ _ _ _).trans (tile_eq _ _ 1 (by omega) (fun e l => ?_) _ _ _ _ ?_ ?_ ?_)
      · refine congrArg (fun y => acc y + PART x w sc mn (i 1) y) ((eq_ix2 _).trans ((ix2_inj ..).2 ⟨Fin.ext ?_, Fin.ext ?_⟩)) <;> simp [LoadRect.idx]
      all_goals exact (Rect.emb_apply ..).trans (by simp)
    · idx_vars z
      refine (pay23_apply _ _ _ _).trans (tile_eq _ _ 0 (by omega) (fun e l => ?_) _ _ _ _ ?_ ?_ ?_)
      · refine congrArg (fun y => acc y + PART x w sc mn (i 1) y) ((eq_ix2 _).trans ((ix2_inj ..).2 ⟨Fin.ext ?_, Fin.ext ?_⟩)) <;> simp [LoadRect.idx]
      all_goals exact (Rect.emb_apply ..).trans (by simp)
  · have hy0 : (y 0 : ℕ) < 512 := (y 0).isLt
    have hy1 : (y 1 : ℕ) < 2 := (y 1).isLt
    have hy2 : (y 2 : ℕ) < 128 := (y 2).isLt
    simp only [List.exists_mem_cons_iff, LoadRect.mem_set, Fin.forall_fin_succ]
    have e1 : ∃ j < 2, (y 1 : ℕ) = 0 + 1 * j := ⟨y 1, hy1, by omega⟩
    have e2 : ∃ j < 128, (y 2 : ℕ) = 0 + 1 * j := ⟨y 2, hy2, by omega⟩
    have e0 : ∀ k : ℕ, (y 0 : ℕ) % 4 = k → ∃ j < 128, (y 0 : ℕ) = k + 4 * j := fun k hk => ⟨(y 0 : ℕ) / 4, by omega, by omega⟩
    have hr : (y 0 : ℕ) % 4 = 3 ∨ (y 0 : ℕ) % 4 = 2 ∨ (y 0 : ℕ) % 4 = 1 ∨ (y 0 : ℕ) % 4 = 0 := by omega
    rcases hr with h | h | h | h
    · exact Or.inl ⟨e0 _ h, e1, e2, fun z => z.elim0⟩
    · exact Or.inr (Or.inl ⟨e0 _ h, e1, e2, fun z => z.elim0⟩)
    · exact Or.inr (Or.inr (Or.inl ⟨e0 _ h, e1, e2, fun z => z.elim0⟩))
    · exact Or.inr (Or.inr (Or.inr (Or.inl ⟨e0 _ h, e1, e2, fun z => z.elim0⟩)))

/-- `TRO` at the place where output row `i` and column `n` come from is `OUT` there. -/
theorem tro_eq_out (a : FVec Ideal S192x512 .f32) (u : S512x2x128.Idx) (y : S192x512.Idx)
    (h0 : (u 0 : ℕ) = (y 1 : ℕ)) (h1 : (u 1 : ℕ) = (y 0 : ℕ) % 2) (h2 : (u 2 : ℕ) = (y 0 : ℕ) / 2) :
    TRO a u = OUT a y := by
  have hy : (y 0 : ℕ) < 192 := (y 0).isLt
  unfold TRO OUT
  rw [dif_pos (by omega)]
  refine congrArg a ((ix2_inj ..).2 ⟨Fin.ext ?_, Fin.ext ?_⟩)
  · change 2 * (u 2 : ℕ) + (u 1 : ℕ) = (y 0 : ℕ)
    omega
  · simp only [h0]

/-- A point of the last chunk writes `OUT` of the finished accumulator to the output block. -/
theorem out_C (hc0 : ¬cond0_0 i) (hc1 : cond0_1 i) (x : Vec Ideal S192x16384 .bf16) (w : Vec Ideal S2048x128 .i8)
    (sc mn : Vec Ideal S128x512 .bf16) (acc : Vec Ideal S192x512 .f32) (y : S192x512.Idx) :
    out0_C_4 (F := Ideal) c i arg2 harg2 arg3 harg3 arg4 harg4 arg5 harg5 arg6 harg6 arg7 harg7 arg8 harg8 arg9 harg9 arg10 harg10 hc0 hc1 x w sc mn acc y
      = OUT (fun y => acc y + PART x w sc mn (i 1) y) y := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x w sc mn acc)]
  unfold kernelRun0_C
  dsimp only
  sl_unfold_run_values
  simp only [View.readCov_eq_canon', tro_canon]
  canon_tiles z h
  all_goals idx_vars z
  · refine (pay2_apply _ _ _).trans (tro_eq_out _ _ _ ?_ ?_ ?_) <;> simp [LoadRect.idx] <;> omega
  · refine (pay37_apply _ _ _).trans (tro_eq_out _ _ _ ?_ ?_ ?_) <;> simp [LoadRect.idx] <;> omega
  · refine (pay36_apply _ _ _).trans (tro_eq_out _ _ _ ?_ ?_ ?_) <;> simp [LoadRect.idx] <;> omega
  · refine (pay35_apply _ _ _).trans (tro_eq_out _ _ _ ?_ ?_ ?_) <;> simp [LoadRect.idx] <;> omega

end Cert.KernelIdeal.Pf
-- ==== Proof.Final.lean ====
module

public import proofs.«01_k».proof.Proof.Out
public import proofs.«01_k».proof.Proof.Gen.KernelIdeal.Value
public import Idealize.ShloMosaic.Lib.Claim

/-!
  The result array of the kernel: the 8 chunks of a column block add up to the whole product, and the 14 column blocks make up the array.
-/

@[expose] public section

set_option maxRecDepth 16384

noncomputable section

open Idealize.ShloMosaic Idealize.ShloMosaic.TcCoe Idealize.SL.Sem

namespace Cert.KernelIdeal.Pf

open Cert.KernelIdeal Cert.KernelIdeal.Gen Idealize.ShloMosaic.Tactic

/-- The product that kernel and reference compute, over the extended reals: row `i`, column `n` is the sum over all 16384 rows `k`
    of activation times decoded weight, where the decoded weight is the code of field `n % 4` of byte `(k, n / 4)`, times the
    scale of group `k / 16` and column `n`, plus the minimum of the same group and column. -/
def G (X : Vec Ideal S192x1x16384 .bf16) (W : Vec Ideal S16384x1792 .i8) (sc mn : Vec Ideal S1024x7168 .bf16) :
    FVec Ideal S192x7168 .bf16 := fun y =>
  ∑ k : Fin 16384, X (ix3 (y 0) 0 k)
    * (code (W (ix2 k ⟨(y 1).val / 4, by have := (y 1).isLt; change (y 1).val < 7168 at this; omega⟩)) ((y 1).val % 4)
        * sc (ix2 ⟨k.val / 16, by omega⟩ (y 1)) + mn (ix2 ⟨k.val / 16, by omega⟩ (y 1)))

variable (m : (ℓ : Loc nD τ sig) → Buf (Elt Ideal) ℓ)

/-- Which block each operand has at grid point `t`: chunk `t % 8` and column block `t / 8`. -/
theorem idx : ∀ t : Fin cfg0.N, win0_0.index t = ![0, 0] ∧ win0_1.index t = ![t.val % 8, t.val / 8] ∧ win0_2.index t = ![t.val % 8, t.val / 8]
    ∧ win0_3.index t = ![t.val % 8, t.val / 8] ∧ win0_4.index t = ![0, t.val / 8] ∧ ((grid0.coords t) 1).val = t.val % 8 :=
  (by decide +kernel : ∀ t : Fin grid0.N, _)

/-- What grid point `p` adds to the accumulator. -/
def term (c : Dev nD) (p : Fin cfg0.N) : FVec Ideal S192x512 .f32 :=
  PART (iblk m c 0 p) (iblk m c 1 p) (iblk m c 2 p) (iblk m c 3 p) ((grid0.coords p) 1)

/-- After the last chunk of a column block the accumulator is the sum of its eight chunks. -/
theorem acc_sum (c : Dev nD) (t : Fin cfg0.N) (ht : t.val % 8 = 7) (y : S192x512.Idx) :
    (outsAt0 m c t.val t.isLt).2 y = ∑ s : Fin 8, term m c ⟨8 * (t.val / 8) + s.val, Pipeline.run_point_lt_of_flush t ht s⟩ y := by
  rw [Pipeline.eq_sum_fin_of_reset_step_apply_of_flush (fun n h => (outsAt0 m c n h).2) 8 (fun _ => (0 : EReal)) (term m c)
    (fun t h j => by
      rw [outsAt0_A m c t h (by omega)]
      dsimp only
      rw [acc_A]
      rfl)
    (fun t h j => by
      by_cases h1 : t.val % 8 = 7
      · rw [outsAt0_C m c t h h1]
        dsimp only
        rw [acc_C]
        rfl
      · rw [outsAt0_B m c t h h1]
        dsimp only
        rw [acc_B]
        rfl)
    t ht y, zero_add]

/-- At the last chunk the output block is the accumulator with its columns interleaved. -/
theorem out_eq (c : Dev nD) (t : Fin cfg0.N) (ht : t.val % 8 = 7) (y : S192x512.Idx) :
    (outsAt0 m c t.val t.isLt).1 y = OUT (outsAt0 m c t.val t.isLt).2 y := by
  rw [outsAt0_C m c t (by omega) ht]
  dsimp only
  rw [out_C]
  unfold OUT
  rw [acc_C]

/-- Column `e % 4 * 128 + e / 4` of the accumulator belongs to field `e % 4`, where it is column `e / 4`. -/
theorem col (e : ℕ) (he : e < 512) : (e % 4 * 128 + e / 4) / 128 = e % 4 ∧ (e % 4 * 128 + e / 4) % 128 = e / 4 := by
  constructor <;> omega

/-- The grid has 112 points. -/
theorem N_lt (p : Fin cfg0.N) : p.val < 112 := lt_of_lt_of_eq p.isLt N_0

/-- The block of activations at every point is the whole array. -/
theorem blk0 (c : Dev nD) (p : Fin cfg0.N) (a : Fin 192) (b : Fin 16384) :
    (show FVec Ideal S192x16384 .bf16 from iblk m c 0 p) (ix2 a b) = m ((c : Thread nD τ).loc main_arg0) (ix3 a 0 b) := by
  blk_simp [iblk, idx p]
  entry_read
  pointwise
  blk_ext [idx p]

/-- The block of packed bytes at point `p`, in the array's own indices. -/
theorem blk1 (c : Dev nD) (p : Fin cfg0.N) (a : Fin 2048) (b : Fin 128) :
    (show Vec Ideal S2048x128 .i8 from iblk m c 1 p) (ix2 a b)
      = m ((c : Thread nD τ).loc main_arg1) (ix2 (⟨p.val % 8 * 2048 + a.val, by omega⟩ : Fin 16384) (⟨p.val / 8 * 128 + b.val, by have := N_lt p; omega⟩ : Fin 1792)) := by
  blk_ext [iblk, V, idx p]

/-- The block of scales at point `p`, in the array's own indices. -/
theorem blk2 (c : Dev nD) (p : Fin cfg0.N) (a : Fin 128) (b : Fin 512) :
    (show Vec Ideal S128x512 .bf16 from iblk m c 2 p) (ix2 a b)
      = m ((c : Thread nD τ).loc main_arg2) (ix2 (⟨p.val % 8 * 128 + a.val, by omega⟩ : Fin 1024) (⟨p.val / 8 * 512 + b.val, by have := N_lt p; omega⟩ : Fin 7168)) := by
  blk_ext [iblk, V, idx p]

/-- The block of minimums at point `p`, in the array's own indices. -/
theorem blk3 (c : Dev nD) (p : Fin cfg0.N) (a : Fin 128) (b : Fin 512) :
    (show Vec Ideal S128x512 .bf16 from iblk m c 3 p) (ix2 a b)
      = m ((c : Thread nD τ).loc main_arg3) (ix2 (⟨p.val % 8 * 128 + a.val, by omega⟩ : Fin 1024) (⟨p.val / 8 * 512 + b.val, by have := N_lt p; omega⟩ : Fin 7168)) := by
  blk_ext [iblk, V, idx p]

/-- The result array of the kernel is `G` of its four arguments. -/
theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht := (flush0_4 t).mp hf
  blk_simp
  rw [after0_4]
  refine (out_eq m c t ht y).trans ?_
  unfold OUT
  rw [acc_sum m c t ht]
  unfold term PART G
  refine Fin.sum_mul_add_congr fun s k hl => ?_
  have e0 : ((win0_4.blk t).view.emb y 0 : ℕ) = (y 0 : ℕ) := by blk_simp [idx t]
  have e1 : ((win0_4.blk t).view.emb y 1 : ℕ) = t.val / 8 * 512 + (y 1 : ℕ) := by blk_simp [idx t]
  have hp : 8 * (t.val / 8) + s.val < cfg0.N := Pipeline.run_point_lt_of_flush t ht s
  have hc := (idx ⟨8 * (t.val / 8) + s.val, hp⟩).2.2.2.2.2
  have q1 : (8 * (t.val / 8) + s.val) % 8 = s.val := by omega
  have q2 : (8 * (t.val / 8) + s.val) / 8 = t.val / 8 := by omega
  dsimp only at hc
  have hy : (y 1 : ℕ) < 512 := (y 1).isLt
  have ht' := N_lt t
  refine Ideal.mul_congr ((blk0 m c ⟨8 * (t.val / 8) + s.val, hp⟩ _ _).trans (congrArg (m ((c : Thread nD τ).loc main_arg0)) ((ix3_inj ..).2 ⟨Fin.ext e0.symm, rfl, Fin.ext ?_⟩)))
    (Ideal.add_congr (Ideal.mul_congr
      (congrArg₂ code ((blk1 m c ⟨8 * (t.val / 8) + s.val, hp⟩ _ _).trans
        (congrArg (m ((c : Thread nD τ).loc main_arg1)) ((ix2_inj ..).2 ⟨Fin.ext ?_, Fin.ext ?_⟩))) ?_)
      ((blk2 m c ⟨8 * (t.val / 8) + s.val, hp⟩ _ _).trans
        (congrArg (m ((c : Thread nD τ).loc main_arg2)) ((ix2_inj ..).2 ⟨Fin.ext ?_, Fin.ext ?_⟩))))
      ((blk3 m c ⟨8 * (t.val / 8) + s.val, hp⟩ _ _).trans
        (congrArg (m ((c : Thread nD τ).loc main_arg3)) ((ix2_inj ..).2 ⟨Fin.ext ?_, Fin.ext ?_⟩))))
  all_goals simp only [e1, hc, ix2, q1, q2, (col _ hy).1, (col _ hy).2]
  all_goals clear hc q1 q2 e0 e1 hp
  all_goals omega

end Cert.KernelIdeal.Pf
-- ==== Proof.Ref.lean ====
module

public import proofs.«01_k».proof.Proof.Final
public import proofs.«01_k».proof.Proof.Gen.ReferenceIdeal.Run

/-!
  The reference computes `G`: for each field its decoded weights, their product with the activations, and the four products interleaved.
-/

@[expose] public section

set_option maxRecDepth 16384

noncomputable section

open Idealize.ShloMosaic Idealize.ShloMosaic.TcCoe Idealize.SL.Sem

namespace Cert.ReferenceIdeal.Pf

open Cert.ReferenceIdeal Cert.ReferenceIdeal.Gen Cert.ReferenceIdeal.Value
open Cert.KernelIdeal.Pf (code G)

/-- The reference's decoded weights of field `j`, as the reference writes them; `q` is the shift that its code uses. -/
def wgt (W : Vec Ideal S16384x1792 .i8) (sc mn : Vec Ideal S1024x7168 .bf16) (q : BitVec 32) (j : ℕ) (h : S1024x4x1792.Slices ![0, j, 0] S1024x1x1792) :
    FVec Ideal S16384x1792 .bf16 :=
  shapeCast _ (addf (mulf (shapeCast _ (uitofp .bf16 (andi (Host.shrui (extui 32 W natLt_8_32) (broadcastInDim S16384x1792 ![] bcast_S_S16384x1792 (constantI S_ 32 q))) (broadcastInDim S16384x1792 ![] bcast_S_S16384x1792 (constantI S_ 32 3#32)))) shapeCasts_S16384x1792_S1024x16x1792)
    (broadcastInDim S1024x16x1792 ![0, 1, 2] bcast_S1024x1x1792_S1024x16x1792_0_1_2 (broadcastInDim S1024x1x1792 ![0, 2] bcast_S1024x1792_S1024x1x1792_0_2 (shapeCast _ (extractStridedSlice S1024x1x1792 ![0, j, 0] (transpose S1024x4x1792 [0, 2, 1] (shapeCast _ sc shapeCasts_S1024x7168_S1024x1792x4) transposes_S1024x1792x4_S1024x4x1792_0_2_1) h) shapeCasts_S1024x1x1792_S1024x1792))))
    (broadcastInDim S1024x16x1792 ![0, 1, 2] bcast_S1024x1x1792_S1024x16x1792_0_1_2 (broadcastInDim S1024x1x1792 ![0, 2] bcast_S1024x1792_S1024x1x1792_0_2 (shapeCast _ (extractStridedSlice S1024x1x1792 ![0, j, 0] (transpose S1024x4x1792 [0, 2, 1] (shapeCast _ mn shapeCasts_S1024x7168_S1024x1792x4) transposes_S1024x1792x4_S1024x4x1792_0_2_1) h) shapeCasts_S1024x1x1792_S1024x1792)))) shapeCasts_S1024x16x1792_S16384x1792

/-- Shifting a byte right by `2 j` and masking with 3, in 32-bit words, gives its code of field `j`. -/
theorem word_code (w : BitVec 8) (q : BitVec 32) (j : Fin 4) (hq : q.toNat = 2 * j.val) :
    (FloatOps.uitofp (F := Ideal) .bf16 (IntOp.andi (IntOp.shrui .host (BitVec.setWidth 32 w) q) 3#32) : EReal) = code w j.val := by
  have e : (IntOp.andi (IntOp.shrui .host (BitVec.setWidth 32 w) q) 3#32).toNat = (w.toNat >>> (2 * j.val)) % 4 := by
    unfold IntOp.andi IntOp.shrui
    rw [if_pos (by omega), BitVec.toNat_and, BitVec.ushiftRight_eq', BitVec.toNat_ushiftRight, hq, BitVec.toNat_setWidth,
      Nat.mod_eq_of_lt (by have := w.isLt; omega)]
    exact Nat.and_two_pow_sub_one_eq_mod _ 2
  exact congrArg (fun n : ℕ => (((n : ℕ) : ℝ) : EReal)) e

/-- The decoded weight at row `k` and column `l` of field `j`: code times scale plus minimum, at column `4 l + j`. -/
theorem wgt_apply (W : Vec Ideal S16384x1792 .i8) (sc mn : Vec Ideal S1024x7168 .bf16) (q : BitVec 32) (j : Fin 4) (h : S1024x4x1792.Slices ![0, j.val, 0] S1024x1x1792)
    (hq : q.toNat = 2 * j.val) (k : Fin 16384) (l : Fin 1792) :
    wgt W sc mn q j.val h (ix2 k l)
      = code (W (ix2 k l)) j.val * sc (ix2 ⟨k.val / 16, by omega⟩ ⟨4 * l.val + j.val, by omega⟩) + mn (ix2 ⟨k.val / 16, by omega⟩ ⟨4 * l.val + j.val, by omega⟩) := by
  pointwise [wgt]
  rw [word_code _ q j hq]
  simp only [Nat.mul_comm l.val 4]

/-- The reference's product for one field, as the reference writes it. -/
def fld (X : Vec Ideal S192x1x16384 .bf16) (wg : FVec Ideal S16384x1792 .bf16) : FVec Ideal S192x1x1792 .bf16 :=
  broadcastInDim S192x1x1792 ![0, 2] bcast_S192x1792_S192x1x1792_0_2 (truncf .bf16 (Host.dotGeneral (F := Ideal) (φ₁ := .bf16) dot_S192x16384_S16384x1792_S192x1792_1_0_0_1_n_n none (shapeCast _ X shapeCasts_S192x1x16384_S192x16384) wg) bitsLt_bf16_f32)

/-- That product is the sum over the 16384 rows of activation times decoded weight. -/
theorem fld_apply (X : Vec Ideal S192x1x16384 .bf16) (wg : FVec Ideal S16384x1792 .bf16) (i : Fin 192) (u : Fin 1) (l : Fin 1792) :
    fld X wg (ix3 i u l) = ∑ k : Fin 16384, X (ix3 i 0 k) * wg (ix2 k l) := by
  pointwise [fld]

/-- Choosing among four arrays stacked along an axis of length 4 by repeated subtraction is choosing the `r`-th. -/
theorem ladder (p0 p1 p2 p3 : FVec Ideal S192x1x1792 .bf16) (i : Fin 192) (l : Fin 1792) (r : ℕ) (hr : r < 4) :
    (if h : r < 1 then p0 (ix3 i ⟨r, h⟩ l)
      else if h : r - 1 < 1 then p1 (ix3 i ⟨r - 1, h⟩ l)
      else if h : r - 1 - 1 < 1 then p2 (ix3 i ⟨r - 1 - 1, h⟩ l)
      else p3 (ix3 i ⟨r - 1 - 1 - 1, by omega⟩ l))
      = (![p0, p1, p2, p3] ⟨r, hr⟩ : FVec Ideal S192x1x1792 .bf16) (ix3 i 0 l) := by
  interval_cases r <;> rfl

/-- The four products stacked, transposed and flattened: column `n` is column `n / 4` of field `n % 4`. -/
theorem cat_apply (p0 p1 p2 p3 : FVec Ideal S192x1x1792 .bf16) (i : Fin 192) (n : Fin 7168) :
    shapeCast S192x7168 (transpose S192x1792x4 [0, 2, 1] (concatenate S192x4x1792 1 [⟨S192x1x1792, p0⟩, ⟨S192x1x1792, p1⟩, ⟨S192x1x1792, p2⟩, ⟨S192x1x1792, p3⟩]
      concatenates_S192x1x1792_S192x1x1792_S192x1x1792_S192x1x1792_S192x4x1792_d1) transposes_S192x4x1792_S192x1792x4_0_2_1) shapeCasts_S192x1792x4_S192x7168 (ix2 i n)
      = (![p0, p1, p2, p3] ⟨n.val % 4, by omega⟩ : FVec Ideal S192x1x1792 .bf16) (ix3 i 0 ⟨n.val / 4, by omega⟩) := by
  pointwise
  exact ladder p0 p1 p2 p3 i ⟨n.val / 4, by omega⟩ (n.val % 4) (Nat.mod_lt _ (by decide))

/-- The product of field `j` over the reference's arguments. -/
def part (X : Vec Ideal S192x1x16384 .bf16) (W : Vec Ideal S16384x1792 .i8) (sc mn : Vec Ideal S1024x7168 .bf16) (q : BitVec 32) (j : ℕ)
    (h : S1024x4x1792.Slices ![0, j, 0] S1024x1x1792) : FVec Ideal S192x1x1792 .bf16 := fld X (wgt W sc mn q j h)

/-- The product of field `n % 4` at column `n / 4` is `G` at column `n`. -/
theorem part_apply (X : Vec Ideal S192x1x16384 .bf16) (W : Vec Ideal S16384x1792 .i8) (sc mn : Vec Ideal S1024x7168 .bf16) (q : BitVec 32) (j : Fin 4)
    (h : S1024x4x1792.Slices ![0, j.val, 0] S1024x1x1792) (hq : q.toNat = 2 * j.val) (i : Fin 192) (n : Fin 7168) (hj : n.val % 4 = j.val) :
    part X W sc mn q j.val h (ix3 i 0 ⟨n.val / 4, by omega⟩) = G X W sc mn (ix2 i n) := by
  refine (fld_apply _ _ _ _ _).trans (Finset.sum_congr rfl fun k _ => Ideal.mul_congr rfl ((wgt_apply W sc mn q j h hq k _).trans ?_))
  have e : (⟨4 * (n.val / 4) + j.val, by omega⟩ : Fin 7168) = n := Fin.ext (by dsimp only; omega)
  dsimp only
  rw [e, ← hj]
  rfl

/-- The result of the reference is `G` of its four arguments. -/
theorem res_eq (m : (ℓ : Loc nD τ sig) → Buf (Elt Ideal) ℓ) (c : Dev nD) :
    res_main_v91 m c = G (m ((c.tc : Thread nD τ).loc main_arg0)) (m ((c.tc : Thread nD τ).loc main_arg1))
      (m ((c.tc : Thread nD τ).loc main_arg2)) (m ((c.tc : Thread nD τ).loc main_arg3)) := by
  funext y
  obtain ⟨i, n, rfl⟩ : ∃ a b, y = ix2 a b := ⟨_, _, eq_ix2 y⟩
  refine (cat_apply (part _ _ _ _ 0#32 0 slices_S1024x4x1792_S1024x1x1792_0_0_0) (part _ _ _ _ 2#32 1 slices_S1024x4x1792_S1024x1x1792_0_1_0)
    (part _ _ _ _ 4#32 2 slices_S1024x4x1792_S1024x1x1792_0_2_0) (part _ _ _ _ 6#32 3 slices_S1024x4x1792_S1024x1x1792_0_3_0) i n).trans ?_
  obtain ⟨j, hj⟩ : ∃ j : Fin 4, n.val % 4 = j.val := ⟨⟨n.val % 4, by omega⟩, rfl⟩
  rw [show (⟨n.val % 4, by omega⟩ : Fin 4) = j from Fin.ext hj]
  match j, hj with
  | 0, hj => exact part_apply _ _ _ _ 0#32 0 _ rfl i n hj
  | 1, hj => exact part_apply _ _ _ _ 2#32 1 _ rfl i n hj
  | 2, hj => exact part_apply _ _ _ _ 4#32 2 _ rfl i n hj
  | 3, hj => exact part_apply _ _ _ _ 6#32 3 _ rfl i n hj

end Cert.ReferenceIdeal.Pf
-- ==== Proof.Claims.lean ====
module

public import proofs.«01_k».proof.Proof.Ref
public import proofs.«01_k».proof.Defs
public import proofs.«01_k».proof.Proof.Gen.Kernel.Frame
public import proofs.«01_k».proof.Proof.Gen.KernelIdeal.Frame
public import Idealize.ShloMosaic.Lib.Bf16PairInverse
public import Idealize.ShloMosaic.Lib.Quiescent

@[expose] public section

set_option maxRecDepth 16384

noncomputable section

open Idealize.ShloMosaic Idealize.ShloMosaic.TcCoe Idealize.SL.Sem

namespace Cert.Proof

/-- The kernel as written runs to the end from any memory and random state, leaves its four arguments as they were and every
    semaphore at zero. -/
theorem frame_p : Cert.quiescent_Kernel := fun m ρ _ => Cert.Kernel.Gen.frame m ρ

/-- The same of the kernel's idealized twin. -/
theorem frame_pi : Cert.quiescent_KernelIdeal := fun m ρ _ => Cert.KernelIdeal.Gen.frame m ρ

/-- The same of the idealized reference, a straight line of host operations with no semaphores at all. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Each rewrite from the kernel to its idealized twin is sound: two bf16 numbers packed in one 32-bit word and taken out again
    are the two numbers, at every shape where the kernel packs, stores or splits such words. -/
theorem preserves : Cert.preserves_Kernel_KernelIdeal :=
  open Cert.KernelIdeal IdealRules.bf16_pair in
  ⟨bufferStatement S512x2x128 S512x1x128, bufferStatement S4x2x128x2x128 S4x2x128x1x128, statement S128x512 S64x512, halfStatement S128x128,
   statement S128x2x128 S128x1x128, statement S1x1x128x2x128 S1x1x128x1x128, statement S1x1x1x2x128 S1x1x1x1x128,
   statement S16x128 S8x128, statement S192x128 S96x128, statement S64x128 S32x128⟩

/-- Over the extended reals the kernel and the reference, run on equal arguments, end with equal results and unchanged
    arguments. Both results are the function `G` of the arguments: `KernelIdeal.Pf.final` on the kernel's side,
    `ReferenceIdeal.Pf.res_eq` on the reference's. -/
theorem algebraic : Cert.algebraic_KernelIdeal_ReferenceIdeal := by
  intro m g m' g' _ hm
  refine ⟨fun c => Cert.KernelIdeal.Pf.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun r h c => ⟨(h c).1.trans (Cert.KernelIdeal.Pf.final m c), (h c).2⟩)
      (Cert.KernelIdeal.Value.run_blocks (F := Ideal) m g)
  · refine (θ_run Cert.ReferenceIdeal.defs _ _).mono (fun r h c => ⟨(h c).1.trans ?_, (h c).2⟩) (Cert.ReferenceIdeal.Value.run (F := Ideal) m' g')
    obtain ⟨h0, h1, h2, h3⟩ := hm c
    rw [Cert.ReferenceIdeal.Pf.res_eq, h0, h1, h2, h3]

end Cert.Proof

end
-- ==== Proof.lean ====
module

public import proofs.«01_k».proof.Proof.Claims

@[expose] public section

noncomputable section

namespace Cert.Proof

/-- All five claims hold. -/
theorem claim : Cert.Claim := ⟨Cert.Kernel.Gen.facts, Cert.KernelIdeal.Gen.facts, Cert.ReferenceIdeal.Gen.facts,
  frame_p, frame_pi, frame_ri, preserves, algebraic⟩

end Cert.Proof

end
